-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S8x512 : Shape := ⟨2, ![8, 512]⟩
abbrev S8x9x512 : Shape := ⟨3, ![8, 9, 512]⟩
abbrev S384x256 : Shape := ⟨2, ![384, 256]⟩
abbrev S256x1x4 : Shape := ⟨3, ![256, 1, 4]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩
abbrev S8x1x512 : Shape := ⟨3, ![8, 1, 512]⟩

class Facts : Prop where
  bcast_S_S8x512 : S_.BroadcastsInDim S8x512 (![] : Fin 0 → Fin S8x512.rank)
  bcast_S_S8x9x512 : S_.BroadcastsInDim S8x9x512 (![] : Fin 0 → Fin S8x9x512.rank)
  bcast_S8x512_S8x1x512_0_2 : S8x512.BroadcastsInDim S8x1x512 (![0, 2] : Fin 2 → Fin S8x1x512.rank)
  bcast_S8x1x512_S8x9x512_0_1_2 : S8x1x512.BroadcastsInDim S8x9x512 (![0, 1, 2] : Fin 3 → Fin S8x9x512.rank)
  reducesTo_S8x9x512_S_d0_1_2 : S8x9x512.ReducesTo [0, 1, 2] S_
  h_S_ : 0 < S_.numel
  reducesTo_S8x512_S_d0_1 : S8x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg1 : IVec S8x9x512 32) (main_arg8 : FVec F S1 .f32) (main_v7 : IVec S_ 1) (main_v13 : IVec S_ 1) (main_v15 : IVec S8x9x512 1) (main_c_6 : IVec S_ 32) : IVec S_ 1 :=
  let main_v16 : IVec S8x9x512 32 := broadcastInDim S8x9x512 ![] bcast_S_S8x9x512 main_c_6
  let main_v17 : IVec S8x9x512 1 := cmpi .slt main_arg1 main_v16
  let main_v18 : IVec S8x9x512 1 := andi main_v15 main_v17
  let main_c_7 : IVec S_ 1 := constantI S_ 1 1#1
  let main_v19 : IVec S_ 1 := (fun x v => Host.reduce IntOp.andi x v reducesTo_S8x9x512_S_d0_1_2 h_S_) main_v18 main_c_7
  let main_v20 : IVec S_ 1 := andi main_v13 main_v19
  let main_cst : FVec F S_ .f32 := constant S_ .f32 0x00000000#32
  let main_v21 : FVec F S1 .f32 := broadcastInDim S1 ![] bcast_S_S1 main_cst
  let main_v22 : IVec S1 1 := cmpf .oeq main_arg8 main_v21
  let main_v23 : FVec F S1 .f32 := Host.absf main_arg8
  let main_cst_8 : FVec F S_ .f32 := constant S_ .f32 0x7F800000#32
  let main_v24 : FVec F S1 .f32 := broadcastInDim S1 ![] bcast_S_S1 main_cst_8
  let main_v25 : IVec S1 1 := cmpf .olt main_v23 main_v24
  let main_v26 : IVec S1 1 := broadcastInDim S1 ![] bcast_S_S1 main_v7
  let main_v27 : IVec S1 1 := andi main_v25 main_v26
  let main_v28 : IVec S1 1 := ori main_v22 main_v27
  let main_c_9 : IVec S_ 1 := constantI S_ 1 1#1
  let main_v29 : IVec S_ 1 := (fun x v => Host.reduce IntOp.andi x v reducesTo_S1_S_d0 h_S_) main_v28 main_c_9
  let main_v30 : IVec S_ 1 := andi main_v20 main_v29
  main_v30

def fn {F : FTy → Type} [FloatOps F] (main_arg0 : IVec S8x512 32) (main_arg1 : IVec S8x9x512 32) (main_arg2 : FVec F S384x256 .f32) (main_arg3 : FVec F S256x1x4 .f32) (main_arg4 : FVec F S256 .f32) (main_arg5 : FVec F S256x256 .f32) (main_arg6 : FVec F S256 .f32) (main_arg7 : FVec F S1x256 .f32) (main_arg8 : FVec F S1 .f32) (main_arg9 : FVec F S256x256 .f32) (main_arg10 : FVec F S256 .f32) : IVec S_ 1 :=
  let main_c : IVec S_ 32 := constantI S_ 32 0#32
  let main_v0 : IVec S8x512 32 := broadcastInDim S8x512 ![] bcast_S_S8x512 main_c
  let main_v1 : IVec S8x512 1 := cmpi .eq main_arg0 main_v0
  let main_c_0 : IVec S_ 32 := constantI S_ 32 0#32
  let main_v2 : IVec S8x9x512 32 := broadcastInDim S8x9x512 ![] bcast_S_S8x9x512 main_c_0
  let main_v3 : IVec S8x9x512 1 := cmpi .eq main_arg1 main_v2
  let main_v4 : IVec S8x1x512 1 := broadcastInDim S8x1x512 ![0, 2] bcast_S8x512_S8x1x512_0_2 main_v1
  let main_v5 : IVec S8x9x512 1 := broadcastInDim S8x9x512 ![0, 1, 2] bcast_S8x1x512_S8x9x512_0_1_2 main_v4
  let main_v6 : IVec S8x9x512 1 := cmpi .eq main_v3 main_v5
  let main_c_1 : IVec S_ 1 := constantI S_ 1 1#1
  let main_v7 : IVec S_ 1 := (fun x v => Host.reduce IntOp.andi x v reducesTo_S8x9x512_S_d0_1_2 h_S_) main_v6 main_c_1
  let main_c_2 : IVec S_ 32 := constantI S_ 32 0#32
  let main_v8 : IVec S8x512 32 := broadcastInDim S8x512 ![] bcast_S_S8x512 main_c_2
  let main_v9 : IVec S8x512 1 := cmpi .sge main_arg0 main_v8
  let main_c_3 : IVec S_ 32 := constantI S_ 32 384#32
  let main_v10 : IVec S8x512 32 := broadcastInDim S8x512 ![] bcast_S_S8x512 main_c_3
  let main_v11 : IVec S8x512 1 := cmpi .slt main_arg0 main_v10
  let main_v12 : IVec S8x512 1 := andi main_v9 main_v11
  let main_c_4 : IVec S_ 1 := constantI S_ 1 1#1
  let main_v13 : IVec S_ 1 := (fun x v => Host.reduce IntOp.andi x v reducesTo_S8x512_S_d0_1 h_S_) main_v12 main_c_4
  let main_c_5 : IVec S_ 32 := constantI S_ 32 0#32
  let main_v14 : IVec S8x9x512 32 := broadcastInDim S8x9x512 ![] bcast_S_S8x9x512 main_c_5
  let main_v15 : IVec S8x9x512 1 := cmpi .sge main_arg1 main_v14
  let main_c_6 : IVec S_ 32 := constantI S_ 32 64#32
  fn_part1 (F := F) main_arg1 main_arg8 main_v7 main_v13 main_v15 main_c_6
-- ==== Kernel.lean ====
abbrev S8x512 : Shape := ⟨2, ![8, 512]⟩
abbrev S8x9x512 : Shape := ⟨3, ![8, 9, 512]⟩
abbrev S384x256 : Shape := ⟨2, ![384, 256]⟩
abbrev S256x1x4 : Shape := ⟨3, ![256, 1, 4]⟩
abbrev S256 : Shape := ⟨1, ![256]⟩
abbrev S256x256 : Shape := ⟨2, ![256, 256]⟩
abbrev S1x256 : Shape := ⟨2, ![1, 256]⟩
abbrev S1 : Shape := ⟨1, ![1]⟩
abbrev S8x1x512 : Shape := ⟨3, ![8, 1, 512]⟩
abbrev S256x4 : Shape := ⟨2, ![256, 4]⟩
abbrev S4x256 : Shape := ⟨2, ![4, 256]⟩
abbrev S8x512x256 : Shape := ⟨3, ![8, 512, 256]⟩
abbrev S1x1x512 : Shape := ⟨3, ![1, 1, 512]⟩
abbrev S1x9x512 : Shape := ⟨3, ![1, 9, 512]⟩
abbrev S1x512x256 : Shape := ⟨3, ![1, 512, 256]⟩
abbrev S520x256 : Shape := ⟨2, ![520, 256]⟩
abbrev S10x512x256 : Shape := ⟨3, ![10, 512, 256]⟩
abbrev S512x512 : Shape := ⟨2, ![512, 512]⟩
abbrev S1x512 : Shape := ⟨2, ![1, 512]⟩
abbrev S512x1 : Shape := ⟨2, ![512, 1]⟩
abbrev S512x384 : Shape := ⟨2, ![512, 384]⟩
abbrev S512x256 : Shape := ⟨2, ![512, 256]⟩
abbrev S8x256 : Shape := ⟨2, ![8, 256]⟩
abbrev S512x64 : Shape := ⟨2, ![512, 64]⟩
abbrev S64x64 : Shape := ⟨2, ![64, 64]⟩
abbrev S9x512 : Shape := ⟨2, ![9, 512]⟩
abbrev S1x1x1 : Shape := ⟨3, ![1, 1, 1]⟩
abbrev S64 : Shape := ⟨1, ![64]⟩
abbrev S1x64 : Shape := ⟨2, ![1, 64]⟩
abbrev S64x256 : Shape := ⟨2, ![64, 256]⟩

abbrev nBuf : Space → Nat
  | .hbm => 18
  | .vmem => 16
  | .smem => 0
  | _ => 0

abbrev bufTy : (tb : Table) → Fin (tcTables nBuf tb) → BufTy
  | .hbm, ⟨0, _⟩ => ⟨S8x512, .i32⟩
  | .hbm, ⟨1, _⟩ => ⟨S8x9x512, .i32⟩
  | .hbm, ⟨2, _⟩ => ⟨S384x256, .f32⟩
  | .hbm, ⟨3, _⟩ => ⟨S256x1x4, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1, .f32⟩
  | .hbm, ⟨9, _⟩ => ⟨S256x256, .f32⟩
  | .hbm, ⟨10, _⟩ => ⟨S256, .f32⟩
  | .hbm, ⟨11, _⟩ => ⟨S8x1x512, .i32⟩
  | .hbm, ⟨12, _⟩ => ⟨S256x4, .f32⟩
  | .hbm, ⟨13, _⟩ => ⟨S4x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S8x512x256, .f32⟩
  | .local _ .vmem, ⟨0, _⟩ => ⟨S1x1x512, .i32⟩
  | .local _ .vmem, ⟨1, _⟩ => ⟨S1x1x512, .i32⟩
  | .local _ .vmem, ⟨2, _⟩ => ⟨S1x9x512, .i32⟩
  | .local _ .vmem, ⟨3, _⟩ => ⟨S1x9x512, .i32⟩
  | .local _ .vmem, ⟨4, _⟩ => ⟨S384x256, .f32⟩
  | .local _ .vmem, ⟨5, _⟩ => ⟨S4x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S1x512x256, .f32⟩
  | .local _ .vmem, ⟨13, _⟩ => ⟨S1x512x256, .f32⟩
  | .local _ .vmem, ⟨14, _⟩ => ⟨S520x256, .f32⟩
  | .local _ .vmem, ⟨15, _⟩ => ⟨S10x512x256, .f32⟩
  | _, _ => ⟨S8x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x512 : Shape := ⟨2, ![8, 512]⟩
abbrev S8x9x512 : Shape := ⟨3, ![8, 9, 512]⟩
abbrev S384x256 : Shape := ⟨2, ![384, 256]⟩
abbrev S256x1x4 : Shape := ⟨3, ![256, 1, 4]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩
abbrev S8x512x1 : Shape := ⟨3, ![8, 512, 1]⟩
abbrev S1x1x1 : Shape := ⟨3, ![1, 1, 1]⟩
abbrev S8x512x256 : Shape := ⟨3, ![8, 512, 256]⟩
abbrev S8x1x512 : Shape := ⟨3, ![8, 1, 512]⟩
abbrev S8x10x512 : Shape := ⟨3, ![8, 10, 512]⟩
abbrev S8x515x256 : Shape := ⟨3, ![8, 515, 256]⟩
abbrev S8x256x515 : Shape := ⟨3, ![8, 256, 515]⟩
abbrev S8x256x512 : Shape := ⟨3, ![8, 256, 512]⟩
abbrev S256x1x1 : Shape := ⟨3, ![256, 1, 1]⟩
abbrev S1x256x1 : Shape := ⟨3, ![1, 256, 1]⟩
abbrev S8x9 : Shape := ⟨2, ![8, 9]⟩
abbrev S8x9x512x1 : Shape := ⟨4, ![8, 9, 512, 1]⟩
abbrev S8x1x512x256 : Shape := ⟨4, ![8, 1, 512, 256]⟩
abbrev S8x9x512x256 : Shape := ⟨4, ![8, 9, 512, 256]⟩
abbrev S8x9x1 : Shape := ⟨3, ![8, 9, 1]⟩
abbrev S72 : Shape := ⟨1, ![72]⟩
abbrev S36864 : Shape := ⟨1, ![36864]⟩
abbrev S36864x256 : Shape := ⟨2, ![36864, 256]⟩
abbrev S36864x1 : Shape := ⟨2, ![36864, 1]⟩
abbrev S1x1x1x1 : Shape := ⟨4, ![1, 1, 1, 1]⟩
abbrev S8x10x512x256 : Shape := ⟨4, ![8, 10, 512, 256]⟩
abbrev S8x512x10x256 : Shape := ⟨4, ![8, 512, 10, 256]⟩
abbrev S8x512x10 : Shape := ⟨3, ![8, 512, 10]⟩
abbrev S8x512x10x1 : Shape := ⟨4, ![8, 512, 10, 1]⟩
abbrev S1x1x256 : Shape := ⟨3, ![1, 1, 256]⟩

abbrev nBuf : Space → Nat
  | .hbm => 203
  | .vmem => 0
  | .smem => 0
  | _ => 0

abbrev hbmTy0_0 (i : Nat) : BufTy := match i % 128 with
  | 0 => ⟨S8x512, .i32⟩
  | 1 => ⟨S8x9x512, .i32⟩
  | 2 => ⟨S384x256, .f32⟩
  | 3 => ⟨S256x1x4, .f32⟩
  | 4 => ⟨S256, .f32⟩
  | 5 => ⟨S256x256, .f32⟩
  | 6 => ⟨S256, .f32⟩
  | 7 => ⟨S1x256, .f32⟩
  | 8 => ⟨S1, .f32⟩
  | 9 => ⟨S256x256, .f32⟩
  | 10 => ⟨S256, .f32⟩
  | 11 => ⟨S_, .i32⟩
  | 12 => ⟨S8x512, .i32⟩
  | 13 => ⟨S8x512, .i1⟩
  | 14 => ⟨S_, .i32⟩
  | 15 => ⟨S8x512, .i32⟩
  | 16 => ⟨S8x512, .i32⟩
  | 17 => ⟨S8x512, .i32⟩
  | 18 => ⟨S8x512x1, .i32⟩
  | 19 => ⟨S1, .i32⟩
  | 20 => ⟨S_, .i32⟩
  | 21 => ⟨S8x512x1, .i32⟩
  | 22 => ⟨S8x512x1, .i1⟩
  | 23 => ⟨S1x1x1, .i32⟩
  | 24 => ⟨S8x512x1, .i32⟩
  | 25 => ⟨S8x512x1, .i1⟩
  | 26 => ⟨S8x512x1, .i1⟩
  | 27 => ⟨S_, .i1⟩
  | 28 => ⟨S8x512, .i1⟩
  | 29 => ⟨S8x512x256, .f32⟩
  | 30 => ⟨S8x512x256, .i1⟩
  | 31 => ⟨S_, .f32⟩
  | 32 => ⟨S8x512x256, .f32⟩
  | 33 => ⟨S8x512x256, .f32⟩
  | 34 => ⟨S_, .i32⟩
  | 35 => ⟨S8x512, .i32⟩
  | 36 => ⟨S8x512, .i1⟩
  | 37 => ⟨S8x512x1, .i1⟩
  | 38 => ⟨S8x1x512, .i32⟩
  | 39 => ⟨S8x10x512, .i32⟩
  | 40 => ⟨S_, .f32⟩
  | 41 => ⟨S_, .f32⟩
  | 42 => ⟨S8x515x256, .f32⟩
  | 43 => ⟨S8x256x515, .f32⟩
  | 44 => ⟨S8x256x512, .f32⟩
  | 45 => ⟨S256x1x1, .f32⟩
  | 46 => ⟨S256, .f32⟩
  | 47 => ⟨S1x256x1, .f32⟩
  | 48 => ⟨S8x256x512, .f32⟩
  | 49 => ⟨S8x256x512, .f32⟩
  | 50 => ⟨S_, .f32⟩
  | 51 => ⟨S8x256x512, .f32⟩
  | 52 => ⟨S8x256x512, .f32⟩
  | 53 => ⟨S8x256x512, .f32⟩
  | 54 => ⟨S256x1x1, .f32⟩
  | 55 => ⟨S256, .f32⟩
  | 56 => ⟨S1x256x1, .f32⟩
  | 57 => ⟨S8x256x512, .f32⟩
  | 58 => ⟨S8x256x512, .f32⟩
  | 59 => ⟨S8x256x512, .f32⟩
  | 60 => ⟨S8x256x512, .f32⟩
  | 61 => ⟨S256x1x1, .f32⟩
  | 62 => ⟨S256, .f32⟩
  | 63 => ⟨S1x256x1, .f32⟩
  | 64 => ⟨S8x256x512, .f32⟩
  | 65 => ⟨S8x256x512, .f32⟩
  | 66 => ⟨S8x256x512, .f32⟩
  | 67 => ⟨S8x256x512, .f32⟩
  | 68 => ⟨S256x1x1, .f32⟩
  | 69 => ⟨S256, .f32⟩
  | 70 => ⟨S1x256x1, .f32⟩
  | 71 => ⟨S8x256x512, .f32⟩
  | 72 => ⟨S8x256x512, .f32⟩
  | 73 => ⟨S8x256x512, .f32⟩
  | 74 => ⟨S1x256x1, .f32⟩
  | 75 => ⟨S8x256x512, .f32⟩
  | 76 => ⟨S8x256x512, .f32⟩
  | 77 => ⟨S8x512x256, .f32⟩
  | 78 => ⟨S8x256x512, .f32⟩
  | 79 => ⟨S1x256x1, .f32⟩
  | 80 => ⟨S8x256x512, .f32⟩
  | 81 => ⟨S8x256x512, .f32⟩
  | 82 => ⟨S8x512x256, .f32⟩
  | 83 => ⟨S_, .f32⟩
  | 84 => ⟨S_, .f32⟩
  | 85 => ⟨S8x512x256, .i1⟩
  | 86 => ⟨S8x512x256, .f32⟩
  | 87 => ⟨S8x512x256, .f32⟩
  | 88 => ⟨S_, .i32⟩
  | 89 => ⟨S8x9, .i32⟩
  | 90 => ⟨S_, .i32⟩
  | 91 => ⟨S8x9, .i32⟩
  | 92 => ⟨S8x9, .i32⟩
  | 93 => ⟨S_, .i32⟩
  | 94 => ⟨S8x9x512, .i32⟩
  | 95 => ⟨S8x9x512, .i1⟩
  | 96 => ⟨S8x9x512x1, .i1⟩
  | 97 => ⟨S8x1x512x256, .f32⟩
  | 98 => ⟨S_, .f32⟩
  | 99 => ⟨S_, .f32⟩
  | 100 => ⟨S8x9x512x256, .i1⟩
  | 101 => ⟨S8x9x512x256, .f32⟩
  | 102 => ⟨S8x9x512x256, .f32⟩
  | 103 => ⟨S8x9x512x256, .f32⟩
  | 104 => ⟨S8x9x1, .i32⟩
  | 105 => ⟨S8x9x512, .i32⟩
  | 106 => ⟨S8x9x512, .i32⟩
  | 107 => ⟨S_, .i32⟩
  | 108 => ⟨S8x9x512, .i32⟩
  | 109 => ⟨S8x9x512, .i32⟩
  | 110 => ⟨S72, .i32⟩
  | 111 => ⟨S8x9x1, .i32⟩
  | 112 => ⟨S_, .i32⟩
  | 113 => ⟨S8x9x1, .i32⟩
  | 114 => ⟨S8x9x1, .i32⟩
  | 115 => ⟨S8x9x512, .i32⟩
  | 116 => ⟨S8x9x512, .i32⟩
  | 117 => ⟨S36864, .i32⟩
  | 118 => ⟨S36864x256, .f32⟩
  | 119 => ⟨S_, .f32⟩
  | 120 => ⟨S36864x256, .f32⟩
  | 121 => ⟨S36864x1, .i32⟩
  | 122 => ⟨S36864x256, .f32⟩
  | 123 => ⟨S_, .f32⟩
  | 124 => ⟨S36864, .f32⟩
  | 125 => ⟨S_, .f32⟩
  | 126 => ⟨S36864, .f32⟩
  | 127 => ⟨S36864x1, .i32⟩
  | _ => ⟨S8x512, .i32⟩

abbrev hbmTy0_1 (i : Nat) : BufTy := match i % 128 with
  | 0 => ⟨S36864, .f32⟩
  | 1 => ⟨S_, .f32⟩
  | 2 => ⟨S36864, .f32⟩
  | 3 => ⟨S36864, .f32⟩
  | 4 => ⟨S36864x1, .f32⟩
  | 5 => ⟨S36864x256, .f32⟩
  | 6 => ⟨S36864x256, .f32⟩
  | 7 => ⟨S8x9x512x256, .f32⟩
  | 8 => ⟨S8x9x512, .i32⟩
  | 9 => ⟨S8x9x512x1, .i32⟩
  | 10 => ⟨S_, .i32⟩
  | 11 => ⟨S8x9x512x1, .i32⟩
  | 12 => ⟨S8x9x512x1, .i1⟩
  | 13 => ⟨S_, .i32⟩
  | 14 => ⟨S8x9x512x1, .i32⟩
  | 15 => ⟨S8x9x512x1, .i32⟩
  | 16 => ⟨S8x9x512x1, .i32⟩
  | 17 => ⟨S1, .i32⟩
  | 18 => ⟨S_, .i32⟩
  | 19 => ⟨S8x9x512x1, .i32⟩
  | 20 => ⟨S8x9x512x1, .i1⟩
  | 21 => ⟨S1x1x1x1, .i32⟩
  | 22 => ⟨S8x9x512x1, .i32⟩
  | 23 => ⟨S8x9x512x1, .i1⟩
  | 24 => ⟨S8x9x512x1, .i1⟩
  | 25 => ⟨S_, .i1⟩
  | 26 => ⟨S8x9x512, .i1⟩
  | 27 => ⟨S8x9x512x256, .f32⟩
  | 28 => ⟨S8x9x512x256, .i1⟩
  | 29 => ⟨S_, .f32⟩
  | 30 => ⟨S8x9x512x256, .f32⟩
  | 31 => ⟨S8x9x512x256, .f32⟩
  | 32 => ⟨S8x1x512x256, .f32⟩
  | 33 => ⟨S8x10x512x256, .f32⟩
  | 34 => ⟨S8x512x10x256, .f32⟩
  | 35 => ⟨S256, .f32⟩
  | 36 => ⟨S8x512x10, .f32⟩
  | 37 => ⟨S_, .f32⟩
  | 38 => ⟨S8x512x10, .f32⟩
  | 39 => ⟨S8x512x10, .f32⟩
  | 40 => ⟨S8x512x10, .i32⟩
  | 41 => ⟨S_, .i32⟩
  | 42 => ⟨S8x512x10, .i32⟩
  | 43 => ⟨S8x512x10, .i1⟩
  | 44 => ⟨S_, .f32⟩
  | 45 => ⟨S8x512x10, .f32⟩
  | 46 => ⟨S8x512x10, .f32⟩
  | 47 => ⟨S_, .f32⟩
  | 48 => ⟨S8x512, .f32⟩
  | 49 => ⟨S_, .f32⟩
  | 50 => ⟨S8x512, .f32⟩
  | 51 => ⟨S8x512, .f32⟩
  | 52 => ⟨S8x512x1, .f32⟩
  | 53 => ⟨S8x512x10, .f32⟩
  | 54 => ⟨S8x512x10, .f32⟩
  | 55 => ⟨S8x512x10, .f32⟩
  | 56 => ⟨S_, .f32⟩
  | 57 => ⟨S8x512, .f32⟩
  | 58 => ⟨S8x512x1, .f32⟩
  | 59 => ⟨S8x512x10, .f32⟩
  | 60 => ⟨S8x512x10, .f32⟩
  | 61 => ⟨S8x512x10x1, .f32⟩
  | 62 => ⟨S8x512x10x256, .f32⟩
  | 63 => ⟨S8x512x10x256, .f32⟩
  | 64 => ⟨S_, .f32⟩
  | 65 => ⟨S8x512x256, .f32⟩
  | 66 => ⟨S256x256, .f32⟩
  | 67 => ⟨S8x512x256, .f32⟩
  | 68 => ⟨S1x1x256, .f32⟩
  | 69 => ⟨S8x512x256, .f32⟩
  | 70 => ⟨S8x512x256, .f32⟩
  | 71 => ⟨S_, .f32⟩
  | 72 => ⟨S8x512x256, .f32⟩
  | 73 => ⟨S8x512x256, .f32⟩
  | 74 => ⟨S8x512x256, .f32⟩
  | _ => ⟨S8x512, .i32⟩

abbrev hbmTy (i : Nat) : BufTy := match i / 128 with
  | 0 => hbmTy0_0 i
  | 1 => hbmTy0_1 i
  | _ => ⟨S8x512, .i32⟩

abbrev bufTy : (tb : Table) → Fin (tcTables nBuf tb) → BufTy
  | .hbm, ⟨i, _⟩ => hbmTy i
  | _, _ => ⟨S8x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_c : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_cst : Ref sig .tc := ⟨.hbm, 40, rfl⟩
abbrev main_call1_v0 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_cst_0 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_1 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v46 : Ref sig .tc := ⟨.hbm, 87, rfl⟩
abbrev main_c_2 : Ref sig .tc := ⟨.hbm, 88, rfl⟩
abbrev main_v47 : Ref sig .tc := ⟨.hbm, 89, rfl⟩
abbrev main_c_3 : Ref sig .tc := ⟨.hbm, 90, rfl⟩
abbrev main_v48 : Ref sig .tc := ⟨.hbm, 91, rfl⟩
abbrev main_v49 : Ref sig .tc := ⟨.hbm, 92, rfl⟩
abbrev main_c_4 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_5 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_v54 : Ref sig .tc := ⟨.hbm, 103, rfl⟩
abbrev main_v55 : Ref sig .tc := ⟨.hbm, 104, rfl⟩
abbrev main_call4_v0 : Ref sig .tc := ⟨.hbm, 105, rfl⟩
abbrev main_v56 : Ref sig .tc := ⟨.hbm, 106, rfl⟩
abbrev main_c_6 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_c_7 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_cst_8 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_cst_9 : Ref sig .tc := ⟨.hbm, 123, rfl⟩
abbrev main_v70 : Ref sig .tc := ⟨.hbm, 124, rfl⟩
abbrev main_cst_10 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_cst_11 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_call6_c : Ref sig .tc := ⟨.hbm, 138, rfl⟩
abbrev main_call6_v0 : Ref sig .tc := ⟨.hbm, 139, rfl⟩
abbrev main_call6_v1 : Ref sig .tc := ⟨.hbm, 140, rfl⟩
abbrev main_call6_c_0 : Ref sig .tc := ⟨.hbm, 141, rfl⟩
abbrev main_call6_v2 : Ref sig .tc := ⟨.hbm, 142, rfl⟩
abbrev main_call6_v3 : Ref sig .tc := ⟨.hbm, 143, rfl⟩
abbrev main_call6_v4 : Ref sig .tc := ⟨.hbm, 144, rfl⟩
abbrev main_call6_c_1 : Ref sig .tc := ⟨.hbm, 145, rfl⟩
abbrev main_call6_c_2 : Ref sig .tc := ⟨.hbm, 146, rfl⟩
abbrev main_call6_v5 : Ref sig .tc := ⟨.hbm, 147, rfl⟩
abbrev main_call6_v6 : Ref sig .tc := ⟨.hbm, 148, rfl⟩
abbrev main_call6_v7 : Ref sig .tc := ⟨.hbm, 149, rfl⟩
abbrev main_call6_v8 : Ref sig .tc := ⟨.hbm, 150, rfl⟩
abbrev main_call6_v9 : Ref sig .tc := ⟨.hbm, 151, rfl⟩
abbrev main_call6_v10 : Ref sig .tc := ⟨.hbm, 152, rfl⟩
abbrev main_call6_c_3 : Ref sig .tc := ⟨.hbm, 153, rfl⟩
abbrev main_call6_v11 : Ref sig .tc := ⟨.hbm, 154, rfl⟩
abbrev main_call6_v12 : Ref sig .tc := ⟨.hbm, 155, rfl⟩
abbrev main_call6_v13 : Ref sig .tc := ⟨.hbm, 156, rfl⟩
abbrev main_call6_cst : Ref sig .tc := ⟨.hbm, 157, rfl⟩
abbrev main_call6_v14 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_c_12 : Ref sig .tc := ⟨.hbm, 169, rfl⟩
abbrev main_v92 : Ref sig .tc := ⟨.hbm, 170, rfl⟩
abbrev main_v93 : Ref sig .tc := ⟨.hbm, 171, rfl⟩
abbrev main_cst_13 : Ref sig .tc := ⟨.hbm, 172, rfl⟩
abbrev main_call7_v0 : Ref sig .tc := ⟨.hbm, 173, rfl⟩
abbrev main_v94 : Ref sig .tc := ⟨.hbm, 174, rfl⟩
abbrev main_cst_14 : Ref sig .tc := ⟨.hbm, 175, rfl⟩
abbrev main_v95 : Ref sig .tc := ⟨.hbm, 176, rfl⟩
abbrev main_cst_15 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_cst_16 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_cst_17 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_call8_cst : Ref sig .tc := ⟨.hbm, 199, rfl⟩
abbrev main_call8_v0 : Ref sig .tc := ⟨.hbm, 200, rfl⟩
abbrev main_v115 : Ref sig .tc := ⟨.hbm, 201, rfl⟩
abbrev main_v116 : Ref sig .tc := ⟨.hbm, 202, rfl⟩

abbrev nD : Nat := 1
abbrev τ : Topo := Topo.v7x

variable {F : FTy → Type} [FloatOps F]
-- ==== Proof.KernelTerms.lean ====
module
public import proofs.«01_k».proof.Proof.Gen.KernelIdeal.Value
public import Idealize.ShloMosaic.Lib.Pipeline.ValueKit
public import Idealize.ShloMosaic.Lib.Pipeline.ReadBack

/-!
# What one grid point computes, as a few plain functions of its input blocks

The kernel's body works ten times on one shape of computation: a representation of every position (the embedding, and
for each of nine layers the mean over the position's sorted group), a mask of every position, a score of every
position. Here these are written once as functions of one layer's row of group ids, every layer of the body is shown to
be that function, and the block written is shown to be the ten representations weighted by the softmax of the ten
masked scores, put through the closing dense layer (`outsAt0_eq`).
-/

@[expose] public section
set_option maxRecDepth 16384
noncomputable section
open Idealize.ShloMosaic Idealize.ShloMosaic.TcCoe Idealize.SL.Sem
open Idealize.ShloMosaic.Pipeline (Dat)
namespace Cert.KernelIdeal.Block
open Cert.KernelIdeal Cert.KernelIdeal.Gen

/-! ## The plain functions -/

/-- A row turned into a column, by a product with the identity. -/
def colOf (r : FVec Ideal S1x512 .f32) : FVec Ideal S512x1 .f32 :=
  matmul dot_S512x512_S1x512_S512x1_1_1_0_0_n_n none k0_pay2 r (constant S512x1 .f32 0x00000000#32)

/-- Layer `l`'s row of group ids. -/
def rowAt (g : IVec S9x512 32) : Fin 9 → IVec S1x512 32 :=
  ![extractStridedSlice S1x512 ![0, 0] g slices_S9x512_o0_0_S1x512,
    extractStridedSlice S1x512 ![1, 0] g slices_S9x512_o1_0_S1x512,
    extractStridedSlice S1x512 ![2, 0] g slices_S9x512_o2_0_S1x512,
    extractStridedSlice S1x512 ![3, 0] g slices_S9x512_o3_0_S1x512,
    extractStridedSlice S1x512 ![4, 0] g slices_S9x512_o4_0_S1x512,
    extractStridedSlice S1x512 ![5, 0] g slices_S9x512_o5_0_S1x512,
    extractStridedSlice S1x512 ![6, 0] g slices_S9x512_o6_0_S1x512,
    extractStridedSlice S1x512 ![7, 0] g slices_S9x512_o7_0_S1x512,
    extractStridedSlice S1x512 ![8, 0] g slices_S9x512_o8_0_S1x512]

/-- Which positions of a row of ids are padding: those whose id is zero. -/
def padOf (r : IVec S1x512 32) : IVec S512x1 1 :=
  cmpf .oeq (colOf (sitofp .f32 r)) (broadcast S512x1 (Scalar.ofBits .f32 0x00000000#32))

/-- The greatest id of a row. -/
def maxOf (r : IVec S1x512 32) : Ideal .f32 :=
  extractAt ![0, 0, 0] (shapeCast S1x1x1 (multiReduction .maximumf [1, 2] S1
    (shapeCast S1x1x512 (sitofp .f32 r : FVec Ideal S1x512 .f32) shapeCasts_S1x512_S1x1x512) 0xFF800000#32 reduces_S1x1x512_S1 (.inl rfl) rfl)
    shapeCasts_S1_S1x1x1) inpos_S1x1x1_p0_0_0

/-- The adjusted id of every position, as a column: the greatest id for padding, the id less one elsewhere. -/
def adjOf (r : IVec S1x512 32) : FVec Ideal S512x1 .f32 :=
  select (padOf r) (broadcast S512x1 (maxOf r)) (subf (colOf (sitofp .f32 r)) (broadcast S512x1 (Scalar.ofBits .f32 0x3F800000#32)))

/-- The indicator of "position `s` has adjusted id `g`". -/
def hotOf (r : IVec S1x512 32) : FVec Ideal S512x64 .f32 :=
  sitofp .f32 (extui 32 (cmpf .oeq (broadcastTo S512x64 (adjOf r) broadcasts_S512x1_S512x64) k0_pay13) natLt_1_32)

/-- How many positions have each adjusted id. -/
def countOf (r : IVec S1x512 32) : FVec Ideal S1x64 .f32 :=
  shapeCast S1x64 (multiReduction .add [0] S64 (hotOf r) 0x00000000#32 reduces_S512x64_S64 (.inl rfl) rfl) shapeCasts_S64_S1x64

/-- How many positions have a smaller adjusted id. -/
def cumOf (r : IVec S1x512 32) : FVec Ideal S1x64 .f32 :=
  matmul dot_S1x64_S64x64_S1x64_1_0_0_1_n_n none (countOf r) k0_pay15 (constant S1x64 .f32 0x00000000#32)

/-- The indicator of "position `s` of the sorted ids has id `g`". -/
def runOf (r : IVec S1x512 32) : FVec Ideal S512x64 .f32 :=
  sitofp .f32 (extui 32 (andi (cmpf .oge k0_pay14 (broadcastTo S512x64 (cumOf r) broadcasts_S1x64_S512x64))
    (cmpf .olt k0_pay14 (broadcastTo S512x64 (addf (cumOf r) (countOf r)) broadcasts_S1x64_S512x64))) natLt_1_32)

/-- The memberships divided by the size of the group. -/
def weightOf (r : IVec S1x512 32) : FVec Ideal S512x64 .f32 :=
  mulf (hotOf r) (broadcastTo S512x64 (divf (broadcast S1x64 (Scalar.ofBits .f32 0x3F800000#32))
    (maximumf (countOf r) (broadcast S1x64 (Scalar.ofBits .f32 0x3F800000#32)))) broadcasts_S1x64_S512x64)

/-- The embeddings with a layer's padding zeroed. -/
def keptOf (e : FVec Ideal S512x256 .f32) (r : IVec S1x512 32) : FVec Ideal S512x256 .f32 :=
  select (broadcastTo S512x256 (shapeCast S512x1 (padOf r) shapeCasts_S512x1_S512x1) broadcasts_S512x1_S512x256)
    (broadcast S512x256 (Scalar.ofBits .f32 0x00000000#32)) e

/-- The mean of the embeddings over every group, padding counting as zero. -/
def meanOf (e : FVec Ideal S512x256 .f32) (r : IVec S1x512 32) : FVec Ideal S64x256 .f32 :=
  matmul dot_S512x64_S512x256_S64x256_0_0_1_1_n_n none (weightOf r) (keptOf e r) (constant S64x256 .f32 0x00000000#32)

/-- A layer's representation of every position: the mean of the group its sorted id names. -/
def repOf (e : FVec Ideal S512x256 .f32) (r : IVec S1x512 32) : FVec Ideal S512x256 .f32 :=
  matmul dot_S512x64_S64x256_S512x256_1_0_0_1_n_n none (runOf r) (meanOf e r) (constant S512x256 .f32 0x00000000#32)

/-- The score of every position's representation. -/
def scoreOf (p : FVec Ideal S512x256 .f32) (w : FVec Ideal S1x256 .f32) : FVec Ideal S512x1 .f32 :=
  matmul dot_S512x256_S1x256_S512x1_1_1_0_0_n_n none p w (constant S512x1 .f32 0x00000000#32)

/-- A masked score: the mask's great negative number at padding. -/
def maskOf (p : IVec S512x1 1) (s : FVec Ideal S512x1 .f32) : FVec Ideal S512x1 .f32 :=
  select p (broadcast S512x1 (Scalar.ofBits .f32 0xFF7FFFFF#32)) s

/-- A matrix's rows from row `k` on, with zeros below its last. -/
def shiftOf (k : Nat) (e : FVec Ideal S512x256 .f32) : FVec Ideal S512x256 .f32 := fun j =>
  if h : (j 0).val + k < 512 then e (ix2 (⟨(j 0).val + k, h⟩ : Fin 512) (j 1 : Fin 256)) else 0

/-- The characters' embedding: table rows, the four taps of the depthwise convolution, the projection, padding zeroed. -/
def embedOf (x0 : IVec S1x1x512 32) (x2 : FVec Ideal S384x256 .f32) (x3 : FVec Ideal S4x256 .f32) (x4 : FVec Ideal S1x256 .f32)
    (x5 : FVec Ideal S256x256 .f32) (x6 : FVec Ideal S1x256 .f32) : FVec Ideal S512x256 .f32 :=
  k0_pay10 (k0_pay3 x0) (k0_pay6 x3) (k0_pay7 x3 (k0_pay4 (F := Ideal) x0 x2) (shiftOf 1 (k0_pay4 x0 x2)))
    (shiftOf 2 (k0_pay4 x0 x2)) (k0_pay8 x3) (shiftOf 3 (k0_pay4 x0 x2)) x4 x5 x6

/-- The ten representations: the embedding's, then one a layer. -/
def reps (e : FVec Ideal S512x256 .f32) (g : IVec S9x512 32) : Fin 10 → FVec Ideal S512x256 .f32 :=
  ![e, repOf e (rowAt g 0), repOf e (rowAt g 1), repOf e (rowAt g 2), repOf e (rowAt g 3), repOf e (rowAt g 4),
    repOf e (rowAt g 5), repOf e (rowAt g 6), repOf e (rowAt g 7), repOf e (rowAt g 8)]

/-- The ten masks. -/
def pads (x0 : IVec S1x1x512 32) (g : IVec S9x512 32) : Fin 10 → IVec S512x1 1 :=
  ![k0_pay9 (F := Ideal) (k0_pay3 x0), padOf (rowAt g 0), padOf (rowAt g 1), padOf (rowAt g 2), padOf (rowAt g 3), padOf (rowAt g 4),
    padOf (rowAt g 5), padOf (rowAt g 6), padOf (rowAt g 7), padOf (rowAt g 8)]

/-- A matrix as the slab the scratch buffer of representations holds. -/
def slabOf (p : FVec Ideal S512x256 .f32) : FVec Ideal S1x512x256 .f32 := shapeCast S1x512x256 p shapeCasts_S512x256_S1x512x256

/-- Ten columns combined from the left. -/
def fold10 {A : Type} (f : A → A → A) (s : Fin 10 → A) : A :=
  f (f (f (f (f (f (f (f (f (s 0) (s 1)) (s 2)) (s 3)) (s 4)) (s 5)) (s 6)) (s 7)) (s 8)) (s 9)

/-- The exponential of a masked score less the greatest of the ten. -/
def expOf (s : Fin 10 → FVec Ideal S512x1 .f32) (n : Fin 10) : FVec Ideal S512x1 .f32 := exp (subf (s n) (fold10 maximumf s))

/-- One representation times its softmax weight. -/
def termOf (s : Fin 10 → FVec Ideal S512x1 .f32) (p : Fin 10 → FVec Ideal S512x256 .f32) (n : Fin 10) : FVec Ideal S512x256 .f32 :=
  mulf (shapeCast S512x256 (slabOf (p n)) shapeCasts_S1x512x256_S512x256)
    (broadcastTo S512x256 (divf (expOf s n) (fold10 addf (expOf s))) broadcasts_S512x1_S512x256)

/-- The closing dense layer, added to its input after the rectifier. -/
def closeOf (o : FVec Ideal S512x256 .f32) (x8 : FVec Ideal S256x256 .f32) (x9 : FVec Ideal S1x256 .f32) : FVec Ideal S1x512x256 .f32 :=
  shapeCast S1x512x256 (addf o (maximumf (addf
    (matmul dot_S512x256_S256x256_S512x256_1_1_0_0_n_n none o x8 (constant S512x256 .f32 0x00000000#32))
    (broadcastTo S512x256 (shapeCast S1x256 x9 shapeCasts_S1x256_S1x256) broadcasts_S1x256_S512x256))
    (broadcast S512x256 (Scalar.ofBits .f32 0x00000000#32)))) shapeCasts_S512x256_S1x512x256

/-- The whole block from ten masked scores and ten representations. -/
def mixOf (s : Fin 10 → FVec Ideal S512x1 .f32) (p : Fin 10 → FVec Ideal S512x256 .f32)
    (x8 : FVec Ideal S256x256 .f32) (x9 : FVec Ideal S1x256 .f32) : FVec Ideal S1x512x256 .f32 :=
  closeOf (fold10 addf (termOf s p)) x8 x9

/-- The ten masked scores. -/
def svals (x0 : IVec S1x1x512 32) (g : IVec S9x512 32) (e : FVec Ideal S512x256 .f32) (x7 : FVec Ideal S1x256 .f32)
    (n : Fin 10) : FVec Ideal S512x1 .f32 := maskOf (pads x0 g n) (scoreOf (reps e g n) x7)

/-- The block from the ten input blocks. -/
def blockOf (x0 : IVec S1x1x512 32) (x1 : IVec S1x9x512 32) (x2 : FVec Ideal S384x256 .f32) (x3 : FVec Ideal S4x256 .f32)
    (x4 : FVec Ideal S1x256 .f32) (x5 : FVec Ideal S256x256 .f32) (x6 x7 : FVec Ideal S1x256 .f32)
    (x8 : FVec Ideal S256x256 .f32) (x9 : FVec Ideal S1x256 .f32) : FVec Ideal S1x512x256 .f32 :=
  mixOf (svals x0 (shapeCast S9x512 x1 shapeCasts_S1x9x512_S9x512) (embedOf x0 x2 x3 x4 x5 x6) x7)
    (reps (embedOf x0 x2 x3 x4 x5 x6) (shapeCast S9x512 x1 shapeCasts_S1x9x512_S9x512)) x8 x9

/-! ## Every layer of the body is the plain functions -/

section Layers
variable (x1 : IVec S1x9x512 32) (g : IVec S9x512 32) (e : FVec Ideal S512x256 .f32) (w : FVec Ideal S1x256 .f32)

theorem ids_eq : k0_pay16 (F := Ideal) x1 = shapeCast S9x512 x1 shapeCasts_S1x9x512_S9x512 := rfl

theorem pad1 : k0_pay19 (F := Ideal) k0_pay2 x1 = padOf (rowAt (shapeCast S9x512 x1 shapeCasts_S1x9x512_S9x512) 0) := rfl
theorem pad2 : k0_pay25 (F := Ideal) k0_pay2 g = padOf (rowAt g 1) := rfl
theorem pad3 : k0_pay31 (F := Ideal) k0_pay2 g = padOf (rowAt g 2) := rfl
theorem pad4 : k0_pay37 (F := Ideal) k0_pay2 g = padOf (rowAt g 3) := rfl
theorem pad5 : k0_pay47 (F := Ideal) k0_pay2 g = padOf (rowAt g 4) := rfl
theorem pad6 : k0_pay57 (F := Ideal) k0_pay2 g = padOf (rowAt g 5) := rfl
theorem pad7 : k0_pay69 (F := Ideal) k0_pay2 g = padOf (rowAt g 6) := rfl
theorem pad8 : k0_pay79 (F := Ideal) k0_pay2 g = padOf (rowAt g 7) := rfl
theorem pad9 : k0_pay89 (F := Ideal) k0_pay2 g = padOf (rowAt g 8) := rfl

theorem rep1 : k0_pay20 k0_pay2 e k0_pay13 k0_pay14 k0_pay15 x1
    = repOf e (rowAt (shapeCast S9x512 x1 shapeCasts_S1x9x512_S9x512) 0) := rfl
theorem slab1 : k0_pay21 k0_pay2 e k0_pay13 k0_pay14 k0_pay15 x1
    = slabOf (repOf e (rowAt (shapeCast S9x512 x1 shapeCasts_S1x9x512_S9x512) 0)) := rfl
theorem rep2 : k0_pay26 k0_pay2 e k0_pay13 k0_pay14 k0_pay15 g = repOf e (rowAt g 1) := rfl
theorem rep3 : k0_pay32 k0_pay2 e k0_pay13 k0_pay14 k0_pay15 g = repOf e (rowAt g 2) := rfl
theorem slab2 (p) : k0_pay27 (F := Ideal) p = slabOf p := rfl
theorem slab3 (p) : k0_pay33 (F := Ideal) p = slabOf p := rfl
theorem slab4 : k0_pay43 (k0_pay40 k0_pay2 e k0_pay13 g) (k0_pay41 k0_pay2 k0_pay13 k0_pay14 k0_pay15 g)
    (constant (F := Ideal) S512x256 .f32 0x00000000#32) = slabOf (repOf e (rowAt g 3)) := rfl
theorem slab5 : k0_pay53 (k0_pay50 k0_pay2 e k0_pay13 g) (k0_pay51 (F := Ideal) k0_pay2 k0_pay13 k0_pay14 k0_pay15 g)
    = slabOf (repOf e (rowAt g 4)) := rfl
theorem slab6 : k0_pay65 k0_pay14 (k0_pay60 k0_pay2 e k0_pay13 g) (k0_pay62 (F := Ideal) k0_pay2 k0_pay13 k0_pay14 k0_pay15 g)
    (k0_pay63 (F := Ideal) k0_pay2 k0_pay13 k0_pay15 g) = slabOf (repOf e (rowAt g 5)) := rfl
theorem slab7 : k0_pay75 k0_pay14 (k0_pay71 k0_pay2 k0_pay13 g) (k0_pay72 k0_pay2 e k0_pay13 g)
    (k0_pay73 k0_pay2 k0_pay13 k0_pay15 g) = slabOf (repOf e (rowAt g 6)) := rfl
theorem slab8 : k0_pay85 k0_pay14 k0_pay15 (k0_pay81 k0_pay2 k0_pay13 g) (k0_pay82 k0_pay2 k0_pay13 g)
    (k0_pay83 k0_pay2 e g) (constant (F := Ideal) S64x256 .f32 0x00000000#32) = slabOf (repOf e (rowAt g 7)) := rfl
theorem slab9 : k0_pay95 e k0_pay14 k0_pay15 (k0_pay91 k0_pay2 k0_pay13 g) (k0_pay92 k0_pay2 k0_pay13 g)
    (FloatOps.ofBits (F := Ideal) .f32 0x00000000#32) (k0_pay93 (F := Ideal) k0_pay2 g) = slabOf (repOf e (rowAt g 8)) := rfl

theorem score1 (p) : k0_pay22 (F := Ideal) p w = scoreOf p w := rfl
theorem score2 (p) : k0_pay28 (F := Ideal) p w = scoreOf p w := rfl
theorem score3 (p) : k0_pay34 (F := Ideal) p w = scoreOf p w := rfl
theorem score4 : k0_pay44 (k0_pay40 k0_pay2 e k0_pay13 g) (k0_pay41 k0_pay2 k0_pay13 k0_pay14 k0_pay15 g)
    (constant (F := Ideal) S512x256 .f32 0x00000000#32) w = scoreOf (repOf e (rowAt g 3)) w := rfl
theorem score5 : k0_pay54 (k0_pay50 k0_pay2 e k0_pay13 g) (k0_pay51 (F := Ideal) k0_pay2 k0_pay13 k0_pay14 k0_pay15 g) w
    = scoreOf (repOf e (rowAt g 4)) w := rfl
theorem score6 : k0_pay66 k0_pay14 (k0_pay60 k0_pay2 e k0_pay13 g) (k0_pay62 (F := Ideal) k0_pay2 k0_pay13 k0_pay14 k0_pay15 g)
    (k0_pay63 (F := Ideal) k0_pay2 k0_pay13 k0_pay15 g) w = scoreOf (repOf e (rowAt g 5)) w := rfl
theorem score7 : k0_pay76 k0_pay14 (k0_pay71 k0_pay2 k0_pay13 g) (k0_pay72 k0_pay2 e k0_pay13 g)
    (k0_pay73 k0_pay2 k0_pay13 k0_pay15 g) w = scoreOf (repOf e (rowAt g 6)) w := rfl
theorem score8 : k0_pay86 k0_pay14 k0_pay15 (k0_pay81 k0_pay2 k0_pay13 g) (k0_pay82 k0_pay2 k0_pay13 g)
    (k0_pay83 k0_pay2 e g) (constant (F := Ideal) S64x256 .f32 0x00000000#32) w = scoreOf (repOf e (rowAt g 7)) w := rfl
theorem sval9 (p) : k0_pay105 e k0_pay14 k0_pay15 p (k0_pay91 k0_pay2 k0_pay13 g) (k0_pay92 k0_pay2 k0_pay13 g)
    (FloatOps.ofBits (F := Ideal) .f32 0x00000000#32) (k0_pay93 (F := Ideal) k0_pay2 g) w = maskOf p (scoreOf (repOf e (rowAt g 8)) w) := rfl

theorem mask0 (p s) : k0_pay96 (F := Ideal) p s = maskOf p s := rfl
theorem mask1 (p s) : k0_pay97 (F := Ideal) p s = maskOf p s := rfl
theorem mask2 (p s) : k0_pay98 (F := Ideal) p s = maskOf p s := rfl
theorem mask3 (p s) : k0_pay99 (F := Ideal) p s = maskOf p s := rfl
theorem mask4 (p s) : k0_pay100 (F := Ideal) p s = maskOf p s := rfl
theorem mask5 (p s) : k0_pay101 (F := Ideal) p s = maskOf p s := rfl
theorem mask6 (p s) : k0_pay102 (F := Ideal) p s = maskOf p s := rfl
theorem mask7 (p s) : k0_pay103 (F := Ideal) p s = maskOf p s := rfl
theorem mask8 (p s) : k0_pay104 (F := Ideal) p s = maskOf p s := rfl
theorem max3 (p0 s0 p1 s1 p2 s2) : k0_pay106 (F := Ideal) p0 s0 p1 s1 p2 s2
    = maximumf (maximumf (maskOf p0 s0) (maskOf p1 s1)) (maskOf p2 s2) := rfl

end Layers

/-- The embedding's slab. -/
theorem slab0 (v8 v25 v34 v35 v36 v40 v45 v49 v51) : k0_pay11 (F := Ideal) v8 v25 v34 v35 v36 v40 v45 v49 v51
    = slabOf (k0_pay10 v8 v25 v34 v35 v36 v40 v45 v49 v51) := rfl

/-- The embedding's score. -/
theorem score0 (v8 v25 v34 v35 v36 v40 v45 v49 v51 w) : k0_pay12 (F := Ideal) v8 v25 v34 v35 v36 v40 v45 v49 v51 w
    = scoreOf (k0_pay10 v8 v25 v34 v35 v36 v40 v45 v49 v51) w := rfl

/-- The body's last payloads over ten masked scores and ten slabs are the weighted sum put through the closing layer. -/
theorem mix_eq (s0 s1 s2 s3 s4 s5 s6 s7 s8 s9 : FVec Ideal S512x1 .f32)
    (p0 p1 p2 p3 p4 p5 p6 p7 p8 p9 : FVec Ideal S512x256 .f32)
    (x8 : FVec Ideal S256x256 .f32) (x9 : FVec Ideal S1x256 .f32) :
    k0_pay1 (k0_pay117 s3 s4 s5 s6 s7 s8 s9 (maximumf (maximumf s0 s1) s2))
      (k0_pay118 s0 s1 s2 s3 s4 s5 s6 s7 s8 s9 (maximumf (maximumf s0 s1) s2))
      (k0_pay122 (k0_pay111 s3 s4 s5 s6 s7 s8 s9 (maximumf (maximumf s0 s1) s2)) (k0_pay112 s3 s4 s5 s6 s7 s8 s9 (maximumf (maximumf s0 s1) s2))
        (k0_pay113 s3 s4 s5 s6 s7 s8 s9 (maximumf (maximumf s0 s1) s2)) (k0_pay114 s3 s4 s5 s6 s7 s8 s9 (maximumf (maximumf s0 s1) s2))
        (k0_pay115 s3 s4 s5 s6 s7 s8 s9 (maximumf (maximumf s0 s1) s2)) (k0_pay116 s3 s4 s5 s6 s7 s8 s9 (maximumf (maximumf s0 s1) s2))
        (k0_pay118 s0 s1 s2 s3 s4 s5 s6 s7 s8 s9 (maximumf (maximumf s0 s1) s2))
        (k0_pay119 s0 s1 s2 s3 s4 s5 s6 s7 s8 s9 (maximumf (maximumf s0 s1) s2) (slabOf p0) (slabOf p1))
        (k0_pay120 (slabOf p2))
        (k0_pay121 s0 s1 s2 s3 s4 s5 s6 s7 s8 s9 (maximumf (maximumf s0 s1) s2))
        (slabOf p3) (slabOf p4) (slabOf p5) (slabOf p6) (slabOf p7) (slabOf p8))
      (slabOf p9) x8 x9 = mixOf ![s0, s1, s2, s3, s4, s5, s6, s7, s8, s9] ![p0, p1, p2, p3, p4, p5, p6, p7, p8, p9] x8 x9 := rfl

/-- The body's embedding is the plain one. -/
theorem embed_eq (x0 x2 x3 x4 x5 x6) : k0_pay10 (k0_pay3 x0) (k0_pay6 x3) (k0_pay7 x3 (k0_pay4 (F := Ideal) x0 x2) (shiftOf 1 (k0_pay4 x0 x2)))
    (shiftOf 2 (k0_pay4 x0 x2)) (k0_pay8 x3) (shiftOf 3 (k0_pay4 x0 x2)) x4 x5 x6 = embedOf x0 x2 x3 x4 x5 x6 := rfl

/-! ## The loads -/

/-- A load of a whole input buffer reads the block staged there. -/
theorem load_whole {sp : Space} {S : Shape} {e : EltTy} (M : Memref sig .tc sp S e) (h : M.IsWhole) (X : S.Idx → Elt Ideal e)
    {off : Fin S.rank → Nat} (inb : ∀ a, off a + S.size a ≤ S.size a) (h0 : ∀ a, off a = 0) :
    M.view.readAt (Elt Ideal) (Rect.unit off (no_index S.size) inb).toLoadRect (h.unread X) = X := by
  rw [View.readAt_eq_ld, h.read_unread, View.ld_unit_lit' inb X h0]

/-- A load of 512 rows from row `k` of the buffer holding the embedded characters and eight zero rows below. -/
theorem load_shift {sp : Space} (v : View sig .tc sp S520x256 .f32) (E : FVec Ideal S512x256 .f32) (k : Nat) (hk : k ≤ 8)
    (i0 : ∀ a, (![512, 0] : Fin 2 → Nat) a + S8x256.size a ≤ S520x256.size a)
    (i1 : ∀ a, (![0, 0] : Fin 2 → Nat) a + S512x256.size a ≤ S520x256.size a)
    (i2 : ∀ a, (![k, 0] : Fin 2 → Nat) a + S512x256.size a ≤ S520x256.size a) :
    v.readCov [(⟨Rect.unit (s := S520x256) ![512, 0] ![8, 256] i0, k0_pay5 (F := Ideal)⟩ : View.Piece (Elt Ideal) S520x256 .f32), ⟨Rect.unit (s := S520x256) ![0, 0] ![512, 256] i1, E⟩]
      (Rect.unit (s := S520x256) ![k, 0] ![512, 256] i2).toLoadRect = shiftOf k E := by
  rw [View.readCov_eq_canon']
  funext j
  refine View.canon_eq_of_allAt _ _ _ ?_ (View.allAt_cons_unit _ _ _ _ _ ?_ (View.allAt_cons_unit _ _ _ _ _ ?_ (View.allAt_nil _ _)))
  · by_cases h : (j 0).val + k < 512
    · refine ⟨_, List.mem_cons_of_mem _ List.mem_cons_self, (Rect.mem_set_unit (inb := i1)).mpr ?_⟩
      intro a
      have h1 : (j 1).val < 256 := (j 1).isLt
      fin_cases a
      · exact ⟨Nat.zero_le _, by show k + 1 * (j 0).val < 0 + 512; omega⟩
      · exact ⟨Nat.zero_le _, by show 0 + 1 * (j 1).val < 0 + 256; omega⟩
    · refine ⟨_, List.mem_cons_self, (Rect.mem_set_unit (inb := i0)).mpr ?_⟩
      intro a
      have h0 : (j 0).val < 512 := (j 0).isLt
      have h1 : (j 1).val < 256 := (j 1).isLt
      fin_cases a
      · exact ⟨by show 512 ≤ k + 1 * (j 0).val; omega, by show k + 1 * (j 0).val < 512 + 8; omega⟩
      · exact ⟨Nat.zero_le _, by show 0 + 1 * (j 1).val < 0 + 256; omega⟩
  · intro x hx
    have h0 : k + 1 * (j 0).val = 512 + (x 0).val := hx 0
    have hx0 : (x 0).val < 8 := (x 0).isLt
    rw [shiftOf, dif_neg (by omega)]
    exact Ideal.ofBits_zero_f32
  · intro x hx
    have h0 : k + 1 * (j 0).val = 0 + (x 0).val := hx 0
    have h1 : 0 + 1 * (j 1).val = 0 + (x 1).val := hx 1
    have hx0 : (x 0).val < 512 := (x 0).isLt
    rw [shiftOf, dif_pos (by omega)]
    refine congrArg E (funext fun a => ?_)
    fin_cases a
    · exact Fin.ext (by show (x 0).val = (j 0).val + k; omega)
    · exact Fin.ext (by show (x 1).val = (j 1).val; omega)

end Cert.KernelIdeal.Block
-- ==== Proof.KernelBlock.lean ====
module
public import proofs.«01_k».proof.Proof.KernelTerms

/-!
# The block one grid point writes

The block written is the ten representations weighted by the softmax of the ten masked scores, put through the closing
dense layer (`outsAt0_eq`): the run's stored pieces, its loads and its ten layers rewritten by the module on the terms.
-/

@[expose] public section
set_option maxRecDepth 16384
noncomputable section
open Idealize.ShloMosaic Idealize.ShloMosaic.TcCoe Idealize.SL.Sem
open Idealize.ShloMosaic.Pipeline (Dat)
namespace Cert.KernelIdeal.Block
open Cert.KernelIdeal Cert.KernelIdeal.Gen

variable (m : (ℓ : Loc nD τ sig) → Buf (Elt Ideal) ℓ)

set_option maxHeartbeats 4000000 in
/-- The block a grid point leaves is the plain functions' block of the point's ten input blocks. -/
theorem outsAt0_eq (c : Dev nD) (t : Fin cfg0.N) :
    outsAt0 m c t = blockOf (iblk m c 0 t) (iblk m c 1 t) (iblk m c 2 t) (iblk m c 3 t) (iblk m c 4 t) (iblk m c 5 t)
      (iblk m c 6 t) (iblk m c 7 t) (iblk m c 8 t) (iblk m c 9 t) := by
  unfold outsAt0 out0_A_10 kernelRun0_A
  rw [View.read_writes_junk_eq_canon]
  refine (View.canon_cons_unit_lit' (S := S1x512x256) _ _ _ (by decide)).trans ?_
  simp (disch := decide) only [
    kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_8, kernelRun0_A.sl.r_9, kernelRun0_A.sl.r_10, kernelRun0_A.sl.r_11, kernelRun0_A.sl.r_12, kernelRun0_A.sl.r_13,
    kernelRun0_A.sl.r_14, kernelRun0_A.sl.r_15, kernelRun0_A.sl.r_16, kernelRun0_A.sl.r_17, kernelRun0_A.sl.r_18, kernelRun0_A.sl.r_19,
    kernelRun0_A.sl.r_20, kernelRun0_A.sl.r_21, kernelRun0_A.sl.r_22, kernelRun0_A.sl.r_23, kernelRun0_A.sl.r_24, kernelRun0_A.sl.r_25,
    kernelRun0_A.sl.r_26, kernelRun0_A.sl.r_27, kernelRun0_A.sl.r_28, kernelRun0_A.sl.r_29, kernelRun0_A.sl.r_30, kernelRun0_A.sl.r_31,
    kernelRun0_A.sl.r_32, kernelRun0_A.sl.r_33, kernelRun0_A.sl.r_34, kernelRun0_A.sl.r_35, kernelRun0_A.sl.r_36, kernelRun0_A.sl.r_37,
    kernelRun0_A.sl.r_38, kernelRun0_A.sl.r_39, kernelRun0_A.sl.r_40, kernelRun0_A.sl.r_41, kernelRun0_A.sl.r_42, kernelRun0_A.sl.r_43,
    kernelRun0_A.sl.r_44, kernelRun0_A.sl.r_45, kernelRun0_A.sl.r_46, kernelRun0_A.sl.r_47, kernelRun0_A.sl.r_48, kernelRun0_A.sl.r_49,
    kernelRun0_A.sl.r_50, kernelRun0_A.sl.r_51, kernelRun0_A.sl.r_52, kernelRun0_A.sl.r_53, kernelRun0_A.sl.r_54, kernelRun0_A.sl.r_55,
    kernelRun0_A.sl.r_56, kernelRun0_A.sl.r_57, kernelRun0_A.sl.r_58, kernelRun0_A.sl.r_59, kernelRun0_A.sl.r_60, kernelRun0_A.sl.r_61,
    kernelRun0_A.sl.r_62, kernelRun0_A.sl.r_63, kernelRun0_A.sl.r_64, kernelRun0_A.sl.r_65, kernelRun0_A.sl.r_66, kernelRun0_A.sl.r_67,
    kernelRun0_A.sl.HS0_2, kernelRun0_A.sl.HS1_10, kernelRun0_A.sl.cst_157, kernelRun0_A.sl.cst_172, kernelRun0_A.sl.cst_95, kernelRun0_A.sl.r,
    kernelRun0_A.sl.v26, kernelRun0_A.sl.v30, kernelRun0_A.sl.v35, kernelRun0_A.sl.v40, kernelRun0_A.sl.v540, kernelRun0_A.sl.v545,
    kernelRun0_A.sl.v551, kernelRun0_A.sl.v557, kernelRun0_A.sl.v563, kernelRun0_A.sl.v569, kernelRun0_A.sl.v575, kernelRun0_A.sl.v581,
    kernelRun0_A.sl.v587, kernelRun0_A.sl.v593,
    load_whole, load_shift, View.readCov_skip, View.readCov_cons_toLoadRect,
    ids_eq, pad1, pad2, pad3, pad4, pad5, pad6, pad7, pad8, pad9, rep1, rep2, rep3, slab0, slab1, slab2, slab3, slab4, slab5, slab6,
    slab7, slab8, slab9, score0, score1, score2, score3, score4, score5, score6, score7, score8, sval9, mask0, mask1, mask2, mask3,
    mask4, mask5, mask6, mask7, mask8, max3, embed_eq]
  refine (mix_eq ..).trans ?_
  rw [blockOf]
  congr 1
  funext n
  fin_cases n <;> rfl
end Cert.KernelIdeal.Block
-- ==== Proof.KernelBlocks.lean ====
module
public import proofs.«01_k».proof.Proof.Gen.KernelIdeal.Value
public import proofs.«01_k».proof.Proof.KernelTerms
public import Idealize.ShloMosaic.Lib.Claim

/-!
# The input blocks of a grid point

Grid point `t` takes batch row `t` of the characters and of the ids, and the whole of every weight.
-/

@[expose] public section
set_option maxRecDepth 16384
noncomputable section
open Idealize.ShloMosaic Idealize.ShloMosaic.TcCoe Idealize.SL.Sem
open Idealize.ShloMosaic.Pipeline (Dat)
namespace Cert.KernelIdeal.Block
open Cert.KernelIdeal Cert.KernelIdeal.Gen

/-- Where every window's block lies at a grid point. -/
theorem idx : ∀ t : Fin cfg0.N, win0_0.index t = ![t.val, 0, 0] ∧ win0_1.index t = ![t.val, 0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![t.val, 0, 0] ∧ t.val < 8 :=
  (by decide +kernel : ∀ t : Fin grid0.N, _)

variable (m : (ℓ : Loc nD τ sig) → Buf (Elt Ideal) ℓ)

/-- A point's ids. -/
theorem block1 (c : Dev nD) (t : Fin cfg0.N) (l : Fin 9) (s : Fin 512) :
    (iblk m c 1 t : IVec S1x9x512 32) (ix3 0 l s) = (m ((c : Thread nD τ).loc main_arg1) : IVec S8x9x512 32) (ix3 ⟨t.val, (idx t).2.2.2.2.2.2.2.2.2.2.2⟩ l s) := by
  blk_ext [iblk, V, idx t]
/-- A point's characters, which the host has given a middle axis. -/
theorem block0 (c : Dev nD) (t : Fin cfg0.N) (s : Fin 512) :
    (iblk m c 0 t : IVec S1x1x512 32) (ix3 0 0 s) = (m ((c : Thread nD τ).loc main_arg0) : IVec S8x512 32) (ix2 ⟨t.val, (idx t).2.2.2.2.2.2.2.2.2.2.2⟩ s) := by
  blk_simp [iblk, idx t]
  entry_read
  pointwise
  blk_ext [idx t]
/-- The table. -/
theorem block2 (c : Dev nD) (t : Fin cfg0.N) : iblk m c 2 t = m ((c : Thread nD τ).loc main_arg2) := by
  blk_ext! [iblk, V, idx t]
/-- The convolution's weights, which the host has transposed. -/
theorem block3 (c : Dev nD) (t : Fin cfg0.N) (k : Fin 4) (x : Fin 256) :
    (iblk m c 3 t : FVec Ideal S4x256 .f32) (ix2 k x) = (m ((c : Thread nD τ).loc main_arg3) : FVec Ideal S256x1x4 .f32) (ix3 x 0 k) := by
  blk_simp [iblk, idx t]
  entry_read
  pointwise
  blk_ext [idx t]
/-- The convolution's bias, as a row. -/
theorem block4 (c : Dev nD) (t : Fin cfg0.N) (x : Fin 256) :
    (iblk m c 4 t : FVec Ideal S1x256 .f32) (ix2 0 x) = (m ((c : Thread nD τ).loc main_arg4) : FVec Ideal S256 .f32) (ix1 x) := by
  blk_simp [iblk, idx t]
  entry_read
  pointwise
  blk_ext [idx t]
/-- The projection's weights. -/
theorem block5 (c : Dev nD) (t : Fin cfg0.N) : iblk m c 5 t = m ((c : Thread nD τ).loc main_arg5) := by
  blk_ext! [iblk, V, idx t]
/-- The projection's bias, as a row. -/
theorem block6 (c : Dev nD) (t : Fin cfg0.N) (x : Fin 256) :
    (iblk m c 6 t : FVec Ideal S1x256 .f32) (ix2 0 x) = (m ((c : Thread nD τ).loc main_arg6) : FVec Ideal S256 .f32) (ix1 x) := by
  blk_simp [iblk, idx t]
  entry_read
  pointwise
  blk_ext [idx t]
/-- The score's weights. -/
theorem block7 (c : Dev nD) (t : Fin cfg0.N) : iblk m c 7 t = m ((c : Thread nD τ).loc main_arg7) := by
  blk_ext! [iblk, V, idx t]
/-- The closing layer's weights. -/
theorem block8 (c : Dev nD) (t : Fin cfg0.N) : iblk m c 8 t = m ((c : Thread nD τ).loc main_arg9) := by
  blk_ext! [iblk, V, idx t]
/-- The closing layer's bias, as a row. -/
theorem block9 (c : Dev nD) (t : Fin cfg0.N) (x : Fin 256) :
    (iblk m c 9 t : FVec Ideal S1x256 .f32) (ix2 0 x) = (m ((c : Thread nD τ).loc main_arg10) : FVec Ideal S256 .f32) (ix1 x) := by
  blk_simp [iblk, idx t]
  entry_read
  pointwise
  blk_ext [idx t]

end Cert.KernelIdeal.Block
-- ==== Proof.Spec.lean ====
module
public import Idealize.ShloMosaic.PureOps.Ideal

/-!
# Segments, their means and their sorted ids

A layer gives every position an id; the id 0 is padding. The adjusted id of a padding position is the greatest id, that
of any other one less than its own. What the layer represents a position by is the mean, over the segment whose number
stands at the position in the SORTED adjusted ids, of the embeddings with padding counted as zero. These are stated
here over natural numbers and extended reals, with the facts on counting and sorting that the two programs need.
-/

@[expose] public section
noncomputable section
open Idealize.ShloMosaic Finset
namespace Cert.Spec

variable {n : ℕ}

/-- The greatest id. -/
def top (t : Fin n → ℕ) : ℕ := univ.sup t

/-- The adjusted ids. -/
def adj (t : Fin n → ℕ) (s : Fin n) : ℕ := if t s = 0 then top t else t s - 1

/-- How many positions have the id `g`. -/
def cnt (a : Fin n → ℕ) (g : ℕ) : ℕ := (univ.filter fun s => a s = g).card

/-- How many positions have an id below `g`. -/
def below (a : Fin n → ℕ) (g : ℕ) : ℕ := (univ.filter fun s => a s < g).card

/-- `b` is the ids `a` in increasing order. -/
def Sorts (a b : Fin n → ℕ) : Prop := Monotone b ∧ ∃ σ : Equiv.Perm (Fin n), b = a ∘ σ

/-- The sum over a segment, padding counting as zero. -/
def segSum (t : Fin n → ℕ) (x : Fin n → EReal) (g : ℕ) : EReal :=
  ∑ s, if adj t s = g then (if t s = 0 then 0 else x s) else 0

/-- The size of a segment as a value, one for an empty one. -/
def size (t : Fin n → ℕ) (g : ℕ) : EReal := max (((cnt (adj t) g : ℕ) : ℝ) : EReal) 1

/-- The mean over a segment. -/
def mean (t : Fin n → ℕ) (x : Fin n → EReal) (g : ℕ) : EReal := Ideal.div (segSum t x g) (size t g)

/-- Ids below a bound have their adjusted ids below it. -/
theorem adj_lt {t : Fin n → ℕ} {k : ℕ} (h : ∀ s, t s < k) (s : Fin n) : adj t s < k := by
  have ht : top t < k := (Finset.sup_lt_iff (by have := h s; rw [Nat.bot_eq_zero]; omega)).2 fun i _ => h i
  have := h s
  unfold adj; split <;> omega

/-- The sorted ids are among the ids. -/
theorem Sorts.lt {a b : Fin n → ℕ} (hb : Sorts a b) {k : ℕ} (h : ∀ s, a s < k) (s : Fin n) : b s < k := by
  obtain ⟨_, σ, rfl⟩ := hb; exact h _

/-- As many sorted ids as ids lie below a bound. -/
theorem Sorts.below_eq {a b : Fin n → ℕ} (hb : Sorts a b) (g : ℕ) : below b g = below a g := by
  obtain ⟨_, σ, rfl⟩ := hb
  refine Finset.card_bij (fun s _ => σ s) ?_ ?_ ?_
  · intro s hs; simpa using hs
  · intro s _ s' _ h; exact σ.injective h
  · intro s hs
    exact ⟨σ.symm s, by simpa using hs, by simp⟩

/-- Among ids that do not decrease, those below a bound come first: exactly the first `below b g`. -/
theorem lt_iff_of_mono {b : Fin n → ℕ} (hb : Monotone b) (g : ℕ) (s : Fin n) : b s < g ↔ s.val < below b g := by
  constructor
  · intro h
    have hsub : (Finset.Iic s) ⊆ univ.filter fun i => b i < g := by
      intro i hi
      exact Finset.mem_filter.2 ⟨Finset.mem_univ _, lt_of_le_of_lt (hb (Finset.mem_Iic.1 hi)) h⟩
    have := Finset.card_le_card hsub
    rw [Fin.card_Iic] at this
    exact this
  · intro h
    by_contra hn
    have hsub : (univ.filter fun i => b i < g) ⊆ Finset.Iio s := by
      intro i hi
      refine Finset.mem_Iio.2 (lt_of_not_ge fun hsi => hn ?_)
      exact lt_of_le_of_lt (hb hsi) (Finset.mem_filter.1 hi).2
    have := Finset.card_le_card hsub
    rw [Fin.card_Iio] at this
    exact absurd h (not_lt.2 this)

/-- Counting one id more. -/
theorem below_succ (a : Fin n → ℕ) (g : ℕ) : below a (g + 1) = below a g + cnt a g := by
  unfold below cnt
  rw [← Finset.card_union_of_disjoint]
  · congr 1; ext s; simp only [Finset.mem_filter, Finset.mem_univ, true_and, Finset.mem_union]; omega
  · rw [Finset.disjoint_left]; intro s; simp only [Finset.mem_filter, Finset.mem_univ, true_and]; omega

/-- The positions at which the sorted ids are `g` are the `cnt a g` after the first `below a g`. -/
theorem run_iff {a b : Fin n → ℕ} (hb : Sorts a b) (g : ℕ) (s : Fin n) :
    (below a g ≤ s.val ∧ s.val < below a g + cnt a g) ↔ b s = g := by
  have h0 := lt_iff_of_mono hb.1 g s
  have h1 := lt_iff_of_mono hb.1 (g + 1) s
  rw [hb.below_eq] at h0 h1
  rw [below_succ] at h1
  omega

/-- The ids below a bound, counted id by id. -/
theorem below_eq_sum (a : Fin n → ℕ) (g : ℕ) : below a g = ∑ x ∈ range g, cnt a x := by
  induction g with
  | zero => simp [below]
  | succ g ih => rw [Finset.sum_range_succ, ← ih, below_succ]

/-- The same sum over a larger range of ids, masked. -/
theorem below_eq_masked (a : Fin n → ℕ) {k : ℕ} (g : ℕ) (hg : g ≤ k) :
    below a g = ∑ x : Fin k, if x.val < g then cnt a x.val else 0 := by
  rw [below_eq_sum, Fin.sum_univ_eq_sum_range (fun x => if x < g then cnt a x else 0) k, ← Finset.sum_filter]
  congr 1; ext x; simp only [Finset.mem_range, Finset.mem_filter]; omega

/-! ## Sums of extended reals -/

/-- A finite sum of reals is the real sum. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert i S h ih => rw [Finset.sum_insert h, Finset.sum_insert h, ih, EReal.coe_add]

/-- A sum of naturals, as values, is the sum as a value. -/
theorem coe_nat_sum {ι : Type} (S : Finset ι) (f : ι → ℕ) :
    ∑ i ∈ S, (((f i : ℕ) : ℝ) : EReal) = ((((∑ i ∈ S, f i : ℕ)) : ℝ) : EReal) := by
  rw [coe_sum]; congr 1; push_cast; rfl

/-- A sum of zeros and ones counts the ones. -/
theorem sum_ones {ι : Type} [Fintype ι] (p : ι → Prop) [DecidablePred p] :
    ∑ i, (if p i then (1 : EReal) else 0) = ((((univ.filter p).card : ℕ) : ℝ) : EReal) := by
  rw [Finset.card_filter, ← coe_nat_sum]
  refine Finset.sum_congr rfl fun i _ => ?_
  split <;> simp

/-- A nonnegative finite factor leaves a sum. -/
theorem mul_sum {ι : Type} (S : Finset ι) (c : EReal) (h0 : 0 ≤ c) (ht : c ≠ ⊤) (f : ι → EReal) :
    ∑ i ∈ S, c * f i = c * ∑ i ∈ S, f i := by
  classical
  induction S using Finset.induction_on with
  | empty => simp
  | insert i S h ih =>
    rw [Finset.sum_insert h, Finset.sum_insert h, ih, EReal.left_distrib_of_nonneg_of_ne_top h0 ht]

/-- A segment's size is a positive real. -/
theorem size_eq (t : Fin n → ℕ) (g : ℕ) : size t g = ((max ((cnt (adj t) g : ℕ) : ℝ) 1 : ℝ) : EReal) := by
  exact (EReal.coe_strictMono.monotone.map_max (a := ((cnt (adj t) g : ℕ) : ℝ)) (b := 1)).symm

/-- The mean as a sum of the members each divided by the size. -/
theorem sum_weights (t : Fin n → ℕ) (x : Fin n → EReal) (g : ℕ) :
    (∑ s, ((if adj t s = g then (1 : EReal) else 0) * Ideal.div 1 (size t g)) * (if t s = 0 then 0 else x s)) = mean t x g := by
  have hr : (0 : ℝ) < max ((cnt (adj t) g : ℕ) : ℝ) 1 := lt_of_lt_of_le one_pos (le_max_right _ _)
  have hne : size t g ≠ 0 := by
    rw [size_eq]; intro h; exact hr.ne' (EReal.coe_eq_zero.1 h)
  have hinv : Ideal.div 1 (size t g) = (((max ((cnt (adj t) g : ℕ) : ℝ) 1)⁻¹ : ℝ) : EReal) := by
    unfold Ideal.div; rw [if_neg hne, one_mul, size_eq, EReal.coe_inv]
  have h0 : 0 ≤ Ideal.div 1 (size t g) := by
    rw [hinv]; exact EReal.coe_nonneg.2 (inv_nonneg.2 hr.le)
  have ht : Ideal.div 1 (size t g) ≠ ⊤ := by rw [hinv]; exact EReal.coe_ne_top _
  have hm : mean t x g = Ideal.div 1 (size t g) * segSum t x g := by
    unfold mean Ideal.div; rw [if_neg hne, if_neg hne, one_mul, mul_comm]
  rw [hm, segSum, ← mul_sum _ _ h0 ht]
  refine Finset.sum_congr rfl fun s _ => ?_
  split
  · rw [one_mul]
  · rw [zero_mul, zero_mul, mul_zero]

/-- Picking the mean the sorted id names by a sum over the segments. -/
theorem sum_pick {k : ℕ} (b : ℕ) (hb : b < k) (f : ℕ → EReal) :
    (∑ g : Fin k, (if b = g.val then (1 : EReal) else 0) * f g.val) = f b := by
  rw [Finset.sum_eq_single (⟨b, hb⟩ : Fin k)]
  · simp
  · intro g _ hg
    rw [if_neg (fun h => hg (Fin.ext h.symm)), zero_mul]
  · intro h; exact absurd (Finset.mem_univ _) h

/-! ## The softmax does not see a constant added to every score -/

/-- A finite value added to both terms of a difference does not change it. -/
theorem add_sub_add (x y : EReal) (b : ℝ) : (x + b) - (y + b) = x - y := by
  induction x with
  | bot => simp [sub_eq_add_neg]
  | top =>
    induction y with
    | bot => simp [sub_eq_add_neg]
    | top => simp [sub_eq_add_neg]
    | coe y => rw [EReal.top_add_coe, ← EReal.coe_add, EReal.top_sub_coe, EReal.top_sub_coe]
  | coe x =>
    induction y with
    | bot => rw [← EReal.coe_add]; simp [sub_eq_add_neg]
    | top => rw [← EReal.coe_add]; simp [sub_eq_add_neg]
    | coe y => rw [← EReal.coe_add, ← EReal.coe_add, ← EReal.coe_sub, ← EReal.coe_sub]; congr 1; ring

/-- A finite value added to every score is added to the greatest. -/
theorem sup_add {ι : Type} (S : Finset ι) (hS : S.Nonempty) (f : ι → EReal) (b : ℝ) :
    (S.sup fun i => f i + b) = S.sup f + b := by
  have hm : Monotone fun x : EReal => x + (b : EReal) := fun x y h => by simpa using add_le_add_left h _
  apply le_antisymm
  · exact Finset.sup_le fun i hi => hm (Finset.le_sup hi)
  · obtain ⟨i, hi, he⟩ := Finset.exists_mem_eq_sup S hS f
    rw [he]
    exact Finset.le_sup (f := fun i => f i + (b : EReal)) hi

/-- The masked scores, a bias `b` added under the mask. -/
def masked {ι : Type} (p : ι → Prop) [DecidablePred p] (M : EReal) (f : ι → EReal) (b : EReal) (i : ι) : EReal :=
  if p i then M else f i + b

/-- The difference of a masked score from the greatest does not depend on the bias, when the bias is zero or it is
    finite and the mask covers all or nothing. -/
theorem masked_sub {ι : Type} [Fintype ι] [Nonempty ι] (p : ι → Prop) [DecidablePred p] (M : EReal) (f : ι → EReal) (b : EReal)
    (h : b = 0 ∨ ((∃ r : ℝ, b = r) ∧ ((∀ i, p i) ∨ ∀ i, ¬ p i))) (i : ι) :
    masked p M f b i - univ.sup (masked p M f b) = masked p M f 0 i - univ.sup (masked p M f 0) := by
  rcases h with rfl | ⟨⟨r, rfl⟩, hp | hp⟩
  · rfl
  · have : masked p M f (r : EReal) = masked p M f 0 := by funext j; simp [masked, hp j]
    rw [this]
  · have h1 : masked p M f (r : EReal) = fun j => f j + (r : EReal) := by funext j; simp [masked, hp j]
    have h2 : masked p M f 0 = f := by funext j; simp [masked, hp j]
    rw [h1, h2, sup_add _ Finset.univ_nonempty, add_sub_add]

/-! ## One batch row's result -/

/-- The table's rows at the characters, from row `k` on, zero beyond the last position. -/
def tok (T : Fin 384 → Fin 256 → EReal) (q : Fin 512 → Fin 384) (k : ℕ) (s : Fin 512) (d : Fin 256) : EReal :=
  if h : s.val + k < 512 then T (q ⟨s.val + k, h⟩) d else 0

/-- The convolution of those rows. -/
def convAt (T : Fin 384 → Fin 256 → EReal) (w : Fin 4 → Fin 256 → EReal) (b : Fin 256 → EReal) (q : Fin 512 → Fin 384)
    (s : Fin 512) (d : Fin 256) : EReal :=
  tok T q 0 s d * w 0 d + tok T q 1 s d * w 1 d + tok T q 2 s d * w 2 d + tok T q 3 s d * w 3 d + b d

/-- The embedding of a position. -/
def embedAt (T : Fin 384 → Fin 256 → EReal) (w : Fin 4 → Fin 256 → EReal) (b : Fin 256 → EReal) (P : Fin 256 → Fin 256 → EReal)
    (b' : Fin 256 → EReal) (q : Fin 512 → Fin 384) (s : Fin 512) (d : Fin 256) : EReal :=
  if (q s).val = 0 then 0 else (∑ x : Fin 256, convAt T w b q s x * P d x) + b' d

/-- The ten representations of a position, from the embedding and the layers' ids `t` with the sorted adjusted ids `b`. -/
def repAt (e : Fin 512 → Fin 256 → EReal) (t b : Fin 9 → Fin 512 → ℕ) (s : Fin 512) (n : Fin 10) (d : Fin 256) : EReal :=
  Fin.cases (e s d) (fun l => mean (t l) (fun i => e i d) (b l s)) n

/-- Which of a position's ten representations are masked. -/
def padAt (q : Fin 512 → Fin 384) (t : Fin 9 → Fin 512 → ℕ) (s : Fin 512) (n : Fin 10) : Prop :=
  Fin.cases ((q s).val = 0) (fun l => t l s = 0) n

instance (q : Fin 512 → Fin 384) (t : Fin 9 → Fin 512 → ℕ) (s : Fin 512) : DecidablePred (padAt q t s) := fun _ => Classical.dec _

/-- The softmax-weighted sum of ten representations with ten masked scores. -/
def mixAt (r : Fin 10 → Fin 256 → EReal) (v : Fin 10 → EReal) (d : Fin 256) : EReal :=
  ∑ n, r n d * Ideal.div (Ideal.exp (v n - Finset.univ.sup v)) (∑ m, Ideal.exp (v m - Finset.univ.sup v))

/-- A position's result from its representations and masked scores. -/
def outAt (r : Fin 10 → Fin 256 → EReal) (v : Fin 10 → EReal) (P : Fin 256 → Fin 256 → EReal) (b : Fin 256 → EReal) (d : Fin 256) : EReal :=
  mixAt r v d + max ((∑ x : Fin 256, mixAt r v x * P d x) + b d) 0

end Cert.Spec
-- ==== Proof.KernelValue.lean ====
module
public import proofs.«01_k».proof.Proof.KernelTerms
public import proofs.«01_k».proof.Proof.Spec
public import Idealize.ShloMosaic.Lib.Pointwise
public import Idealize.ShloMosaic.Lib.WordCmp

/-!
# The kernel's functions read at an index

One layer's row of ids `r` holds the naturals `t`, all below 64. Every function of the block is read at an index in the
terms of `Cert.Spec`: the mask is `t s = 0`, the indicators are those of the adjusted ids, the counts count them, and the
representation of a position is the mean over the segment whose number stands there in the sorted ids.
-/

@[expose] public section
set_option maxRecDepth 16384
noncomputable section
open Idealize.ShloMosaic Idealize.ShloMosaic.TcCoe Idealize.SL.Sem
namespace Cert.KernelIdeal.Block
open Cert.KernelIdeal Cert.KernelIdeal.Gen

/-! ## Words as values -/

/-- A small word's value. -/
theorem val_word (k : ℕ) (hk : k < 2 ^ 31) : FloatOps.sitofp (F := Ideal) .f32 (BitVec.ofNat 32 k) = (((k : ℕ) : ℝ) : EReal) := by
  have h1 : (BitVec.ofNat 32 k).toNat = k := by rw [BitVec.toNat_ofNat]; exact Nat.mod_eq_of_lt (by omega)
  have h : (BitVec.ofNat 32 k).toInt = (k : ℤ) := by
    rw [WordCmp.toInt_eq_toNat_of_lt_half (by rw [h1]; simpa using hk), h1]
  show ((((BitVec.ofNat 32 k).toInt : ℤ) : ℝ) : EReal) = _
  rw [h]; simp

/-- A truth value widened, as a value. -/
theorem val_bit (p : Prop) [Decidable p] :
    FloatOps.sitofp (F := Ideal) .f32 (BitVec.setWidth 32 (BitVec.ofBool (decide p))) = if p then (1 : EReal) else 0 := by
  show ((((BitVec.setWidth 32 (BitVec.ofBool (decide p))).toInt : ℤ) : ℝ) : EReal) = _
  by_cases h : p
  · simp [h]
  · simp [h]

/-- Equal values of naturals are values of equal naturals. -/
theorem val_inj (a b : ℕ) : ((((a : ℕ) : ℝ) : EReal) = (((b : ℕ) : ℝ) : EReal)) ↔ a = b := by
  rw [EReal.coe_eq_coe_iff, Nat.cast_inj]

/-- A choice by a truth value. -/
theorem sel_bit {A : Type} (p : Prop) [Decidable p] (x y : A) : Scalar.select (BitVec.ofBool (decide p)) x y = if p then x else y := by
  by_cases h : p <;> simp [h, Scalar.select]

/-- The pattern of minus infinity. -/
theorem neg_inf : Ideal.ofBits .f32 0xFF800000#32 = (⊥ : EReal) := by
  simp [Ideal.ofBits, Ideal.ieee]

/-- A sum over one axis with the identity matrix picks the entry. -/
theorem colOf_apply (r : FVec Ideal S1x512 .f32) (s : Fin 512) : colOf r (ix2 s 0) = r (ix2 0 s) := by
  pointwise [colOf, k0_pay2]
  rw [Finset.sum_eq_single s]
  · rw [WordCmp.cmpi_eq_eq, val_bit, if_pos rfl, one_mul]
  · intro x _ hx
    rw [WordCmp.cmpi_eq_eq, val_bit, if_neg, zero_mul]
    intro h
    have h' := congrArg BitVec.toNat h
    rw [BitVec.toNat_ofNat, BitVec.toNat_ofNat, Nat.mod_eq_of_lt (by omega), Nat.mod_eq_of_lt (by omega)] at h'
    exact hx (Fin.ext h'.symm)
  · intro h; exact absurd (Finset.mem_univ _) h

/-- A layer's row is the layer's row of the table of ids. -/
theorem rowAt_apply (g : IVec S9x512 32) (l : Fin 9) (s : Fin 512) : rowAt g l (ix2 0 s) = g (ix2 l s) := by
  fin_cases l <;> pointwise [rowAt]

/-- A position's number, in every column. -/
theorem pay14_apply (s : Fin 512) (g : Fin 64) : k0_pay14 (F := Ideal) (ix2 s g) = FloatOps.sitofp (F := Ideal) .f32 (BitVec.ofNat 32 s.val) := by
  pointwise [k0_pay14]

/-- Both of two truth values. -/
theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- Whether a number lies from a start on, for a length. -/
theorem run_read (k : FVec Ideal S512x64 .f32) (c n : FVec Ideal S1x64 .f32) (s : Fin 512) (g : Fin 64) :
    (sitofp .f32 (extui 32 (andi (cmpf .oge k (broadcastTo S512x64 c broadcasts_S1x64_S512x64))
      (cmpf .olt k (broadcastTo S512x64 (addf c n) broadcasts_S1x64_S512x64))) natLt_1_32) : FVec Ideal S512x64 .f32) (ix2 s g)
    = FloatOps.sitofp (F := Ideal) .f32 (BitVec.setWidth 32 (IntOp.andi
        (BitVec.ofBool (decide (c (ix2 0 g) ≤ k (ix2 s g))))
        (BitVec.ofBool (decide (k (ix2 s g) < c (ix2 0 g) + n (ix2 0 g)))))) := by
  pointwise []

section Row
variable (r : IVec S1x512 32) (t : Fin 512 → ℕ) (hr : ∀ s, r (ix2 0 s) = BitVec.ofNat 32 (t s)) (ht : ∀ s, t s < 64)
include hr ht

/-- An id's value. -/
theorem row_val (s : Fin 512) : FloatOps.sitofp (F := Ideal) .f32 (r (ix2 0 s)) = (((t s : ℕ) : ℝ) : EReal) := by
  rw [hr]; exact val_word _ (by have := ht s; omega)

/-- The mask of padding. -/
theorem padOf_apply (s : Fin 512) : padOf r (ix2 s 0) = BitVec.ofBool (decide (t s = 0)) := by
  pointwise [padOf, colOf_apply]
  rw [row_val r t hr ht]
  congr 1
  have := val_inj (t s) 0
  simp only [Nat.cast_zero, EReal.coe_zero] at this
  exact decide_eq_decide.2 this

/-- The greatest id. -/
theorem maxOf_apply : maxOf r = (((Spec.top t : ℕ) : ℝ) : EReal) := by
  pointwise [maxOf]
  rw [neg_inf]
  apply le_antisymm
  · refine (Finset.fold_max_le _).2 ⟨bot_le, fun x _ => ?_⟩
    rw [row_val r t hr ht, EReal.coe_le_coe_iff, Nat.cast_le]
    exact Finset.le_sup (f := t) (Finset.mem_univ _)
  · obtain ⟨i, _, hi⟩ := Finset.exists_mem_eq_sup (Finset.univ : Finset (Fin 512)) ⟨0, Finset.mem_univ _⟩ t
    refine (Finset.le_fold_max _).2 (Or.inr ⟨(0, i), Finset.mem_univ _, ?_⟩)
    rw [row_val r t hr ht, Spec.top, hi]

/-- The adjusted ids. -/
theorem adjOf_apply (s : Fin 512) : adjOf r (ix2 s 0) = (((Spec.adj t s : ℕ) : ℝ) : EReal) := by
  pointwise [adjOf, colOf_apply]
  rw [row_val r t hr ht, padOf_apply r t hr ht, sel_bit, maxOf_apply r t hr ht, Spec.adj]
  split
  · rfl
  · next h =>
    rw [Nat.cast_sub (by omega), EReal.coe_sub]; simp

/-- The memberships. -/
theorem hotOf_apply (s : Fin 512) (g : Fin 64) : hotOf r (ix2 s g) = if Spec.adj t s = g.val then (1 : EReal) else 0 := by
  pointwise [hotOf, k0_pay13]
  rw [adjOf_apply r t hr ht, val_word _ (by omega), val_bit]
  exact if_congr (val_inj _ _) rfl rfl

/-- The segments' sizes. -/
theorem countOf_apply (g : Fin 64) : countOf r (ix2 0 g) = (((Spec.cnt (Spec.adj t) g.val : ℕ) : ℝ) : EReal) := by
  pointwise [countOf]
  rw [Spec.cnt, ← Spec.sum_ones]
  exact Finset.sum_congr rfl fun s _ => hotOf_apply r t hr ht s g

/-- The positions before each segment. -/
theorem cumOf_apply (g : Fin 64) : cumOf r (ix2 0 g) = (((Spec.below (Spec.adj t) g.val : ℕ) : ℝ) : EReal) := by
  pointwise [cumOf, k0_pay15]
  rw [Spec.below_eq_masked (Spec.adj t) (k := 64) g.val (by omega), ← Spec.coe_nat_sum]
  refine Finset.sum_congr rfl fun x _ => ?_
  have h : ∀ k : Fin 64, (BitVec.ofNat 32 k.val).toInt = (k.val : ℤ) := by decide
  rw [countOf_apply r t hr ht, WordCmp.cmpi_slt_eq, val_bit, h, h]
  by_cases hx : x.val < g.val
  · rw [if_pos (by exact_mod_cast hx), if_pos hx, mul_one]
  · rw [if_neg (by exact_mod_cast hx), if_neg hx, mul_zero]; simp

/-- The runs of the sorted ids. -/
theorem runOf_apply (b : Fin 512 → ℕ) (hb : Spec.Sorts (Spec.adj t) b) (s : Fin 512) (g : Fin 64) :
    runOf r (ix2 s g) = if b s = g.val then (1 : EReal) else 0 := by
  rw [runOf, run_read, cumOf_apply r t hr ht, countOf_apply r t hr ht, pay14_apply, val_word _ (by omega), and_bit, val_bit]
  refine if_congr ?_ rfl rfl
  rw [← EReal.coe_add, EReal.coe_le_coe_iff, EReal.coe_lt_coe_iff, ← Nat.cast_add, Nat.cast_le, Nat.cast_lt]
  exact Spec.run_iff hb g.val s

/-- The memberships divided. -/
theorem weightOf_apply (s : Fin 512) (g : Fin 64) :
    weightOf r (ix2 s g) = (if Spec.adj t s = g.val then (1 : EReal) else 0) * Ideal.div 1 (Spec.size t g.val) := by
  pointwise [weightOf]
  rw [hotOf_apply r t hr ht, countOf_apply r t hr ht]; rfl

/-- The embeddings with padding zeroed. -/
theorem keptOf_apply (e : FVec Ideal S512x256 .f32) (s : Fin 512) (d : Fin 256) :
    keptOf e r (ix2 s d) = if t s = 0 then 0 else e (ix2 s d) := by
  pointwise [keptOf]
  rw [padOf_apply r t hr ht, sel_bit]

/-- The segments' means. -/
theorem meanOf_apply (e : FVec Ideal S512x256 .f32) (g : Fin 64) (d : Fin 256) :
    meanOf e r (ix2 g d) = Spec.mean t (fun s => e (ix2 s d)) g.val := by
  pointwise [meanOf]
  rw [← Spec.sum_weights]
  exact Finset.sum_congr rfl fun s _ => by rw [weightOf_apply r t hr ht, keptOf_apply r t hr ht]

/-- A layer's representation: the mean over the segment the sorted id names. -/
theorem repOf_apply (b : Fin 512 → ℕ) (hb : Spec.Sorts (Spec.adj t) b) (e : FVec Ideal S512x256 .f32) (s : Fin 512) (d : Fin 256) :
    repOf e r (ix2 s d) = Spec.mean t (fun i => e (ix2 i d)) (b s) := by
  pointwise [repOf]
  refine Eq.trans ?_ (Spec.sum_pick (k := 64) (b s) (hb.lt (Spec.adj_lt ht) s) fun g => Spec.mean t (fun i => e (ix2 i d)) g)
  exact Finset.sum_congr rfl fun g _ => by rw [runOf_apply r t hr ht b hb, meanOf_apply r t hr ht]

end Row

/-! ## Scores, the softmax and the closing layer -/

/-- A representation's score. -/
theorem scoreOf_apply (p : FVec Ideal S512x256 .f32) (w : FVec Ideal S1x256 .f32) (s : Fin 512) :
    scoreOf p w (ix2 s 0) = ∑ x : Fin 256, p (ix2 s x) * w (ix2 0 x) := by
  pointwise [scoreOf]

/-- The mask on a score. -/
theorem maskOf_apply (p : IVec S512x1 1) (v : FVec Ideal S512x1 .f32) (s : Fin 512) :
    maskOf p v (ix2 s 0) = Scalar.select (p (ix2 s 0)) (Ideal.ofBits .f32 0xFF7FFFFF#32) (v (ix2 s 0)) := by
  pointwise [maskOf]

/-- The closing layer. -/
theorem closeOf_apply (o : FVec Ideal S512x256 .f32) (x8 : FVec Ideal S256x256 .f32) (x9 : FVec Ideal S1x256 .f32) (s : Fin 512) (d : Fin 256) :
    closeOf o x8 x9 (ix3 0 s d) = o (ix2 s d) + max (∑ x : Fin 256, o (ix2 s x) * x8 (ix2 d x) + x9 (ix2 0 d)) 0 := by
  pointwise [closeOf]

/-- Ten values added from the left are their sum. -/
theorem fold10_add (f : Fin 10 → EReal) : fold10 (fun a b => a + b) f = ∑ n, f n := by
  simp only [fold10, Fin.sum_univ_succ, Fin.sum_univ_zero, add_zero]
  simp only [add_assoc]; rfl

/-- The greatest of ten values taken from the left is the greatest. -/
theorem fold10_max (f : Fin 10 → EReal) : fold10 (fun a b => max a b) f = Finset.univ.sup f := by
  apply le_antisymm
  · simp only [fold10, max_le_iff]
    refine ⟨⟨⟨⟨⟨⟨⟨⟨⟨?_, ?_⟩, ?_⟩, ?_⟩, ?_⟩, ?_⟩, ?_⟩, ?_⟩, ?_⟩, ?_⟩ <;> exact Finset.le_sup (Finset.mem_univ _)
  · refine Finset.sup_le fun n _ => ?_
    fin_cases n <;> simp [fold10, le_max_iff]

/-- An entry of ten columns combined is the entries combined. -/
theorem fold10_at {A I : Type} (f : (I → A) → (I → A) → I → A) (h : A → A → A) (hf : ∀ a b i, f a b i = h (a i) (b i))
    (v : Fin 10 → I → A) (i : I) : fold10 f v i = fold10 h fun n => v n i := by
  simp only [fold10, hf]

/-- One representation times its weight. -/
theorem termOf_apply (v : Fin 10 → FVec Ideal S512x1 .f32) (p : Fin 10 → FVec Ideal S512x256 .f32) (n : Fin 10) (s : Fin 512) (d : Fin 256) :
    termOf v p n (ix2 s d) = p n (ix2 s d) * Ideal.div (Ideal.exp (v n (ix2 s 0) - Finset.univ.sup fun k => v k (ix2 s 0)))
      (∑ m, Ideal.exp (v m (ix2 s 0) - Finset.univ.sup fun k => v k (ix2 s 0))) := by
  have hm : (fold10 maximumf v : FVec Ideal S512x1 .f32) (ix2 s 0) = Finset.univ.sup fun k => v k (ix2 s 0) := by
    rw [← fold10_max]; exact fold10_at maximumf (fun a b => max a b) (fun _ _ _ => rfl) v (ix2 s 0)
  have he : ∀ m, expOf v m (ix2 s 0) = Ideal.exp (v m (ix2 s 0) - Finset.univ.sup fun k => v k (ix2 s 0)) := fun m => by
    rw [← hm]; rfl
  have hs : (fold10 addf (expOf v) : FVec Ideal S512x1 .f32) (ix2 s 0) = ∑ m, expOf v m (ix2 s 0) := by
    rw [← fold10_add]; exact fold10_at addf (fun a b => a + b) (fun _ _ _ => rfl) (expOf v) (ix2 s 0)
  rw [← he]
  simp only [← he]
  rw [← hs]
  pointwise [termOf, slabOf]

/-- The block from the masked scores and the representations. -/
theorem mixOf_apply (v : Fin 10 → FVec Ideal S512x1 .f32) (p : Fin 10 → FVec Ideal S512x256 .f32)
    (x8 : FVec Ideal S256x256 .f32) (x9 : FVec Ideal S1x256 .f32) (o : Fin 512 → Fin 256 → EReal)
    (ho : ∀ s d, o s d = ∑ n, termOf v p n (ix2 s d)) (s : Fin 512) (d : Fin 256) :
    mixOf v p x8 x9 (ix3 0 s d) = o s d + max (∑ x : Fin 256, o s x * x8 (ix2 d x) + x9 (ix2 0 d)) 0 := by
  have h : ∀ d, (fold10 addf (termOf v p) : FVec Ideal S512x256 .f32) (ix2 s d) = o s d := fun d => by
    rw [ho, ← fold10_add]
    exact fold10_at addf (fun a b => a + b) (fun _ _ _ => rfl) (termOf v p) (ix2 s d)
  rw [mixOf, closeOf_apply, h]
  simp only [h]

end Cert.KernelIdeal.Block
-- ==== Proof.KernelEmbed.lean ====
module
public import proofs.«01_k».proof.Proof.KernelValue

/-!
# The kernel's embedding and its block read at an index

The row of characters holds the naturals `q`, all below the table's 384 rows.
-/

@[expose] public section
set_option maxRecDepth 16384
noncomputable section
open Idealize.ShloMosaic Idealize.ShloMosaic.TcCoe Idealize.SL.Sem
namespace Cert.KernelIdeal.Block
open Cert.KernelIdeal Cert.KernelIdeal.Gen

/-- The identity matrix picks an entry. -/
theorem ident_sum (f : Fin 512 → EReal) (s : Fin 512) : (∑ x : Fin 512, k0_pay2 (F := Ideal) (ix2 s x) * f x) = f s := by
  have g : colOf (fun j => f (j 1)) (ix2 s 0) = ∑ x : Fin 512, k0_pay2 (F := Ideal) (ix2 s x) * f x := by
    pointwise [colOf]
  exact g.symm.trans (colOf_apply _ s)

section Chars
variable (x0 : IVec S1x1x512 32) (q : Fin 512 → Fin 384) (hq : ∀ s, x0 (ix3 0 0 s) = BitVec.ofNat 32 (q s).val)
include hq

/-- A character's value. -/
theorem char_val (s : Fin 512) : FloatOps.sitofp (F := Ideal) .f32 (x0 (ix3 0 0 s)) = ((((q s).val : ℕ) : ℝ) : EReal) := by
  rw [hq]; exact val_word _ (by omega)

/-- The column of characters. -/
theorem pay3_apply (s : Fin 512) : k0_pay3 (F := Ideal) x0 (ix2 s 0) = ((((q s).val : ℕ) : ℝ) : EReal) := by
  pointwise [k0_pay3]
  exact (ident_sum (fun x => FloatOps.sitofp (F := Ideal) .f32 (x0 (ix3 0 0 x))) s).trans (char_val x0 q hq s)

/-- The embedding's mask. -/
theorem pad0_apply (s : Fin 512) : k0_pay9 (F := Ideal) (k0_pay3 x0) (ix2 s 0) = BitVec.ofBool (decide ((q s).val = 0)) := by
  pointwise [k0_pay9]
  rw [pay3_apply x0 q hq]
  congr 1
  have := val_inj (q s).val 0
  simp only [Nat.cast_zero, EReal.coe_zero] at this
  exact decide_eq_decide.2 this

/-- The one-hot product reads the character's row. -/
theorem pay4_apply (x2 : FVec Ideal S384x256 .f32) (s : Fin 512) (d : Fin 256) : k0_pay4 (F := Ideal) x0 x2 (ix2 s d) = x2 (ix2 (q s) d) := by
  pointwise [k0_pay4]
  simp only [pay3_apply x0 q hq]
  rw [Finset.sum_eq_single (q s)]
  · rw [val_word _ (by omega), val_bit, if_pos rfl, one_mul]
  · intro x _ hx
    rw [val_word _ (by omega), val_bit, if_neg, zero_mul]
    intro h; exact hx (Fin.ext ((val_inj _ _).1 h).symm)
  · intro h; exact absurd (Finset.mem_univ _) h

/-- A shifted row. -/
theorem shift_apply (x2 : FVec Ideal S384x256 .f32) (k : ℕ) (s : Fin 512) (d : Fin 256) :
    shiftOf k (k0_pay4 (F := Ideal) x0 x2) (ix2 s d) = Spec.tok (fun i x => x2 (ix2 i x)) q k s d := by
  unfold shiftOf Spec.tok
  refine dite_congr rfl (fun h => ?_) fun _ => rfl
  exact pay4_apply x0 q hq x2 _ _

/-- The kernel's embedding. -/
theorem embedOf_apply (x2 : FVec Ideal S384x256 .f32) (x3 : FVec Ideal S4x256 .f32) (x4 : FVec Ideal S1x256 .f32)
    (x5 : FVec Ideal S256x256 .f32) (x6 : FVec Ideal S1x256 .f32) (s : Fin 512) (d : Fin 256) :
    embedOf x0 x2 x3 x4 x5 x6 (ix2 s d)
      = Spec.embedAt (fun i x => x2 (ix2 i x)) (fun k x => x3 (ix2 k x)) (fun x => x4 (ix2 0 x)) (fun i x => x5 (ix2 i x)) (fun x => x6 (ix2 0 x)) q s d := by
  have h0 : ∀ x, k0_pay4 (F := Ideal) x0 x2 (ix2 s x) = Spec.tok (fun i x => x2 (ix2 i x)) q 0 s x := fun x => by
    rw [pay4_apply x0 q hq]; unfold Spec.tok; rw [dif_pos (show s.val + 0 < 512 by omega)]; rfl
  pointwise [embedOf, k0_pay10, k0_pay9, k0_pay8, k0_pay7, k0_pay6]
  have hz : (k0_pay3 (F := Ideal) x0 (ix2 s 0) = 0) ↔ (q s).val = 0 := by
    rw [pay3_apply x0 q hq]
    have := val_inj (q s).val 0
    simpa only [Nat.cast_zero, EReal.coe_zero] using this
  simp only [h0, shift_apply x0 q hq]
  exact if_congr hz rfl rfl

end Chars

/-- The kernel's block at an index. -/
theorem blockOf_apply (x0 : IVec S1x1x512 32) (x1 : IVec S1x9x512 32) (x2 : FVec Ideal S384x256 .f32) (x3 : FVec Ideal S4x256 .f32)
    (x4 : FVec Ideal S1x256 .f32) (x5 : FVec Ideal S256x256 .f32) (x6 x7 : FVec Ideal S1x256 .f32)
    (x8 : FVec Ideal S256x256 .f32) (x9 : FVec Ideal S1x256 .f32)
    (q : Fin 512 → Fin 384) (hq : ∀ s, x0 (ix3 0 0 s) = BitVec.ofNat 32 (q s).val)
    (t b : Fin 9 → Fin 512 → ℕ) (ht : ∀ l s, x1 (ix3 0 l s) = BitVec.ofNat 32 (t l s)) (hlt : ∀ l s, t l s < 64)
    (hb : ∀ l, Spec.Sorts (Spec.adj (t l)) (b l)) (e : Fin 512 → Fin 256 → EReal)
    (he : e = Spec.embedAt (fun i x => x2 (ix2 i x)) (fun k x => x3 (ix2 k x)) (fun x => x4 (ix2 0 x)) (fun i x => x5 (ix2 i x)) (fun x => x6 (ix2 0 x)) q) (s : Fin 512) (d : Fin 256) :
    blockOf x0 x1 x2 x3 x4 x5 x6 x7 x8 x9 (ix3 0 s d)
      = Spec.outAt (Spec.repAt e t b s) (Spec.masked (Spec.padAt q t s) (Ideal.ofBits .f32 0xFF7FFFFF#32)
          (fun n => ∑ x : Fin 256, Spec.repAt e t b s n x * x7 (ix2 0 x)) 0) (fun i x => x8 (ix2 i x)) (fun x => x9 (ix2 0 x)) d := by
  have hE : ∀ s d, embedOf x0 x2 x3 x4 x5 x6 (ix2 s d) = e s d := fun s d => by rw [he]; exact embedOf_apply x0 q hq x2 x3 x4 x5 x6 s d
  generalize hG : shapeCast S9x512 x1 shapeCasts_S1x9x512_S9x512 = g
  have hg : ∀ l s, g (ix2 l s) = BitVec.ofNat 32 (t l s) := fun l s => by
    rw [← ht, ← hG]; pointwise []
  have hrow : ∀ l s, rowAt g l (ix2 0 s) = BitVec.ofNat 32 (t l s) := fun l s => by rw [rowAt_apply, hg]
  have hpad : ∀ s n, pads x0 g n (ix2 s 0) = BitVec.ofBool (decide (Spec.padAt q t s n)) := by
    intro s n
    refine Fin.cases ?_ (fun l => ?_) n
    · refine (pad0_apply x0 q hq s).trans ?_
      congr 1; exact decide_eq_decide.2 Iff.rfl
    · have h : pads x0 g l.succ = padOf (rowAt g l) := by fin_cases l <;> rfl
      rw [h, padOf_apply _ _ (hrow l) (hlt l)]
      congr 1; exact decide_eq_decide.2 Iff.rfl
  generalize hEm : embedOf x0 x2 x3 x4 x5 x6 = em at hE
  have hrep : ∀ s n d, reps em g n (ix2 s d) = Spec.repAt e t b s n d := by
    intro s n d
    refine Fin.cases ?_ (fun l => ?_) n
    · exact hE s d
    · have h : reps em g l.succ = repOf em (rowAt g l) := by fin_cases l <;> rfl
      rw [h, repOf_apply _ _ (hrow l) (hlt l) _ (hb l)]
      simp only [hE]; rfl
  have hv : ∀ s n, svals x0 g em x7 n (ix2 s 0) = Spec.masked (Spec.padAt q t s) (Ideal.ofBits .f32 0xFF7FFFFF#32)
      (fun n => ∑ x : Fin 256, Spec.repAt e t b s n x * x7 (ix2 0 x)) 0 n := by
    intro s n
    rw [svals, maskOf_apply, hpad, sel_bit, scoreOf_apply, Spec.masked, add_zero]
    simp only [hrep]
  rw [blockOf, hEm, hG]
  rw [mixOf_apply _ _ _ _ (fun s d => Spec.mixAt (Spec.repAt e t b s) (Spec.masked (Spec.padAt q t s) (Ideal.ofBits .f32 0xFF7FFFFF#32)
          (fun n => ∑ x : Fin 256, Spec.repAt e t b s n x * x7 (ix2 0 x)) 0) d)]
  · rfl
  · intro s d
    unfold Spec.mixAt
    refine Finset.sum_congr rfl fun n _ => ?_
    rw [termOf_apply, hrep]
    simp only [hv]

end Cert.KernelIdeal.Block
-- ==== Proof.KernelFinal.lean ====
module
public import proofs.«01_k».proof.Proof.KernelBlock
public import proofs.«01_k».proof.Proof.KernelBlocks
public import proofs.«01_k».proof.Proof.KernelEmbed

/-!
# The kernel's result array

An array whose every batch row is `Cert.Spec.outAt` of the row's ten representations and masked scores is the array the
kernel leaves: grid point `t` writes batch row `t`.
-/

@[expose] public section
set_option maxRecDepth 16384
noncomputable section
open Idealize.ShloMosaic Idealize.ShloMosaic.TcCoe Idealize.SL.Sem
open Idealize.ShloMosaic.Pipeline (Dat)
namespace Cert.KernelIdeal.Block
open Cert.KernelIdeal Cert.KernelIdeal.Gen

variable (m : (ℓ : Loc nD τ sig) → Buf (Elt Ideal) ℓ)

/-- The kernel's result array, from its batch rows. -/
theorem final (c : Dev nD) (x0 : IVec S8x512 32) (x1 : IVec S8x9x512 32) (x2 : FVec Ideal S384x256 .f32) (x3 : FVec Ideal S256x1x4 .f32)
    (x4 : FVec Ideal S256 .f32) (x5 : FVec Ideal S256x256 .f32) (x6 : FVec Ideal S256 .f32) (x7 : FVec Ideal S1x256 .f32)
    (x9 : FVec Ideal S256x256 .f32) (x10 : FVec Ideal S256 .f32)
    (e0 : m ((c : Thread nD τ).loc main_arg0) = x0) (e1 : m ((c : Thread nD τ).loc main_arg1) = x1) (e2 : m ((c : Thread nD τ).loc main_arg2) = x2)
    (e3 : m ((c : Thread nD τ).loc main_arg3) = x3) (e4 : m ((c : Thread nD τ).loc main_arg4) = x4) (e5 : m ((c : Thread nD τ).loc main_arg5) = x5)
    (e6 : m ((c : Thread nD τ).loc main_arg6) = x6) (e7 : m ((c : Thread nD τ).loc main_arg7) = x7) (e9 : m ((c : Thread nD τ).loc main_arg9) = x9)
    (e10 : m ((c : Thread nD τ).loc main_arg10) = x10)
    (q : Fin 8 → Fin 512 → Fin 384)
    (hq : ∀ b s, x0 (ix2 b s) = BitVec.ofNat 32 (q b s).val) (t : Fin 8 → Fin 9 → Fin 512 → ℕ)
    (ht : ∀ b l s, x1 (ix3 b l s) = BitVec.ofNat 32 (t b l s)) (hlt : ∀ b l s, t b l s < 64) (G : FVec Ideal S8x512x256 .f32)
    (hG : ∀ b : Fin 8, ∃ o : Fin 9 → Fin 512 → ℕ, (∀ l, Spec.Sorts (Spec.adj (t b l)) (o l)) ∧ ∀ (e : Fin 512 → Fin 256 → EReal),
      e = Spec.embedAt (fun i x => x2 (ix2 i x)) (fun k x => x3 (ix3 x 0 k)) (fun x => x4 (ix1 x)) (fun i x => x5 (ix2 i x)) (fun x => x6 (ix1 x)) (q b) →
      ∀ s d, G (ix3 b s d)
        = Spec.outAt (Spec.repAt e (t b) o s) (Spec.masked (Spec.padAt (q b) (t b) s) (Ideal.ofBits .f32 0xFF7FFFFF#32)
            (fun n => ∑ x : Fin 256, Spec.repAt e (t b) o s n x * x7 (ix2 0 x)) 0) (fun i x => x9 (ix2 i x)) (fun x => x10 (ix1 x)) d) :
    (dats m 0 c).arrAt 10 cfg0.N = G := by
  refine (dats m 0 c).arrAt_eq_of_covers 10 _ (by decide +kernel) fun p _ y => ?_
  have hp : p.val < 8 := (idx p).2.2.2.2.2.2.2.2.2.2.2
  blk_simp
  rw [after0_10, outsAt0_eq]
  have hb0 := fun s => (block0 m c p s).trans (congrFun e0 _)
  have hb1 := fun l s => (block1 m c p l s).trans (congrFun e1 _)
  have hb2 := (block2 m c p).trans e2
  have hb3 := fun k x => (block3 m c p k x).trans (congrFun e3 _)
  have hb4 := fun x => (block4 m c p x).trans (congrFun e4 _)
  have hb5 := (block5 m c p).trans e5
  have hb6 := fun x => (block6 m c p x).trans (congrFun e6 _)
  have hb7 := (block7 m c p).trans e7
  have hb8 := (block8 m c p).trans e9
  have hb9 := fun x => (block9 m c p x).trans (congrFun e10 _)
  obtain ⟨o, ho, hg⟩ := hG ⟨p.val, hp⟩
  have hgo := hg _ rfl (y 1) (y 2)
  have key := blockOf_apply (iblk m c 0 p) (iblk m c 1 p) x2 (iblk m c 3 p) (iblk m c 4 p) x5 (iblk m c 6 p) x7 x9 (iblk m c 9 p)
    (q ⟨p.val, hp⟩) (fun s => (hb0 s).trans (hq _ s)) (t ⟨p.val, hp⟩) o (fun l s => (hb1 l s).trans (ht _ l s)) (fun l s => hlt _ l s) ho _ rfl (y 1) (y 2)
  simp only [hb3, hb4, hb6, hb9] at key
  have hy : (y : S1x512x256.Idx) = ix3 0 (y 1) (y 2) := by blk_ext []
  have hemb : ((win0_10.blk p).view.emb y : S8x512x256.Idx) = ix3 ⟨p.val, hp⟩ (y 1) (y 2) := by blk_ext [idx p]
  refine Eq.trans ?_ ((key.trans hgo.symm).trans (congrArg G hemb.symm))
  rw [hb2, hb5, hb7, hb8]
  exact congrArg _ hy

end Cert.KernelIdeal.Block
-- ==== Proof.RefTerms.lean ====
module
public import proofs.«01_k».proof.Proof.Gen.ReferenceIdeal.Run
public import Idealize.ShloMosaic.Lib.Pipeline.ValueKit
public import Idealize.ShloMosaic.Lib.IdealHost

/-!
# The reference's named terms as functions of its arguments

The reference's run names its intermediate arrays as terms over the launch contents. Here each is written as a function
of the arrays it reads, in smaller steps where the named term is a long one, so that every step can be read at an index
over plain variables.
-/

@[expose] public section
set_option maxRecDepth 16384
noncomputable section
open Idealize.ShloMosaic Idealize.ShloMosaic.TcCoe Idealize.SL.Sem
namespace Cert.ReferenceIdeal.Terms
open Cert.ReferenceIdeal Cert.ReferenceIdeal.Gen

/-- The characters as indices into the table, a negative one counted from the end. -/
def charIdx (x0 : IVec S8x512 32) : IVec S8x512x1 32 :=
  broadcastInDim S8x512x1 ![0, 1] bcast_S8x512_S8x512x1_0_1 (select (cmpi .slt x0 (broadcastInDim S8x512 ![] bcast_S_S8x512 (constantI S_ 32 0#32))) (addi x0 (broadcastInDim S8x512 ![] bcast_S_S8x512 (constantI S_ 32 384#32))) x0)

/-- Which indices lie in the table. -/
def charOk (i : IVec S8x512x1 32) : IVec S8x512 1 :=
  Host.reduce IntOp.andi (andi (cmpi .sge i (broadcastInDim S8x512x1 ![] bcast_S_S8x512x1 (constantI S_ 32 0#32))) (cmpi .sle i (broadcastInDim S8x512x1 ![0, 1, 2] bcast_S1x1x1_S8x512x1_0_1_2 (broadcastInDim S1x1x1 ![2] bcast_S1_S1x1x1_2 (constantI S1 32 383#32))))) (constantI S_ 1 1#1) reducesTo_S8x512x1_S8x512_d2 h_S_

/-- The characters' rows of the table. -/
def charRows (i : IVec S8x512x1 32) (x2 : FVec Ideal S384x256 .f32) : FVec Ideal S8x512x256 .f32 :=
  select (broadcastInDim S8x512x256 ![0, 1] bcast_S8x512_S8x512x256_0_1 (charOk i)) (Host.gather gather_S384x256_S8x512x1_S8x512x256_2_0_n_n_0_2_1256 x2 i) (broadcastInDim S8x512x256 ![] bcast_S_S8x512x256 (constant S_ .f32 0x7FC00000#32))

/-- The rows with three zero positions behind them, channels first. -/
def padded (r : FVec Ideal S8x512x256 .f32) : FVec Ideal S8x256x515 .f32 :=
  transpose S8x256x515 [0, 2, 1] (pad S8x515x256 ![0, 0, 0] ![0, 3, 0] ![0, 0, 0] r (id (constant S_ .f32 0x00000000#32)) pads_S8x512x256_S8x515x256_000_030_000 h_S_) transposes_S8x515x256_S8x256x515_0_2_1

/-- The depthwise convolution: four shifted products and the bias. -/
def conv (p : FVec Ideal S8x256x515 .f32) (x3 : FVec Ideal S256x1x4 .f32) (x4 : FVec Ideal S256 .f32) : FVec Ideal S8x256x512 .f32 :=
  addf (addf (addf (addf (addf (broadcastInDim S8x256x512 ![] bcast_S_S8x256x512 (constant S_ .f32 0x00000000#32)) (mulf (extractStridedSlice S8x256x512 ![0, 0, 0] p slices_S8x256x515_S8x256x512_0_0_0) (broadcastInDim S8x256x512 ![0, 1, 2] bcast_S1x256x1_S8x256x512_0_1_2 (broadcastInDim S1x256x1 ![1] bcast_S256_S1x256x1_1 (shapeCast _ (extractStridedSlice S256x1x1 ![0, 0, 0] x3 slices_S256x1x4_S256x1x1_0_0_0) shapeCasts_S256x1x1_S256))))) (mulf (extractStridedSlice S8x256x512 ![0, 0, 1] p slices_S8x256x515_S8x256x512_0_0_1) (broadcastInDim S8x256x512 ![0, 1, 2] bcast_S1x256x1_S8x256x512_0_1_2 (broadcastInDim S1x256x1 ![1] bcast_S256_S1x256x1_1 (shapeCast _ (extractStridedSlice S256x1x1 ![0, 0, 1] x3 slices_S256x1x4_S256x1x1_0_0_1) shapeCasts_S256x1x1_S256))))) (mulf (extractStridedSlice S8x256x512 ![0, 0, 2] p slices_S8x256x515_S8x256x512_0_0_2) (broadcastInDim S8x256x512 ![0, 1, 2] bcast_S1x256x1_S8x256x512_0_1_2 (broadcastInDim S1x256x1 ![1] bcast_S256_S1x256x1_1 (shapeCast _ (extractStridedSlice S256x1x1 ![0, 0, 2] x3 slices_S256x1x4_S256x1x1_0_0_2) shapeCasts_S256x1x1_S256))))) (mulf (extractStridedSlice S8x256x512 ![0, 0, 3] p slices_S8x256x515_S8x256x512_0_0_3) (broadcastInDim S8x256x512 ![0, 1, 2] bcast_S1x256x1_S8x256x512_0_1_2 (broadcastInDim S1x256x1 ![1] bcast_S256_S1x256x1_1 (shapeCast _ (extractStridedSlice S256x1x1 ![0, 0, 3] x3 slices_S256x1x4_S256x1x1_0_0_3) shapeCasts_S256x1x1_S256))))) (broadcastInDim S8x256x512 ![0, 1, 2] bcast_S1x256x1_S8x256x512_0_1_2 (broadcastInDim S1x256x1 ![1] bcast_S256_S1x256x1_1 x4))

/-- The embedding: the convolution projected, padding zeroed. -/
def embed (x0 : IVec S8x512 32) (v : FVec Ideal S8x256x512 .f32) (x5 : FVec Ideal S256x256 .f32) (x6 : FVec Ideal S256 .f32) : FVec Ideal S8x512x256 .f32 :=
  select (broadcastInDim S8x512x256 ![0, 1, 2] bcast_S8x512x1_S8x512x256_0_1_2 (broadcastInDim S8x512x1 ![0, 1] bcast_S8x512_S8x512x1_0_1 (cmpi .eq x0 (broadcastInDim S8x512 ![] bcast_S_S8x512 (constantI S_ 32 0#32))))) (broadcastInDim S8x512x256 ![] bcast_S_S8x512x256 (id (constant S_ .f32 0x00000000#32))) (transpose S8x512x256 [0, 2, 1] (addf (transpose S8x256x512 [0, 2, 1] (Host.dotGeneral dot_S8x256x512_S256x256_S8x512x256_1_1_02_0_n_n none v x5) transposes_S8x512x256_S8x256x512_0_2_1) (broadcastInDim S8x256x512 ![0, 1, 2] bcast_S1x256x1_S8x256x512_0_1_2 (broadcastInDim S1x256x1 ![1] bcast_S256_S1x256x1_1 x6))) transposes_S8x256x512_S8x512x256_0_2_1)

/-- Which positions of which layers are padding. -/
def isPad (x1 : IVec S8x9x512 32) : IVec S8x9x512 1 := cmpi .eq x1 (broadcastInDim S8x9x512 ![] bcast_S_S8x9x512 (constantI S_ 32 0#32))

/-- The greatest id of every layer. -/
def topId (x1 : IVec S8x9x512 32) : IVec S8x9 32 := Host.reduce IntOp.maxsi x1 (constantI S_ 32 2147483648#32) reducesTo_S8x9x512_S8x9_d2 h_S_

/-- The adjusted ids. -/
def adj (x1 : IVec S8x9x512 32) : IVec S8x9x512 32 :=
  subi (select (isPad x1) (broadcastInDim S8x9x512 ![0, 1, 2] bcast_S8x9x1_S8x9x512_0_1_2 (broadcastInDim S8x9x1 ![0, 1] bcast_S8x9_S8x9x1_0_1 (addi (topId x1) (broadcastInDim S8x9 ![] bcast_S_S8x9 (constantI S_ 32 1#32))))) x1) (broadcastInDim S8x9x512 ![] bcast_S_S8x9x512 (constantI S_ 32 1#32))

/-- The ids numbered apart for every batch row and layer, flat. -/
def flatIds (a : IVec S8x9x512 32) : IVec S36864 32 :=
  shapeCast _ (addi (broadcastInDim S8x9x512 ![0, 1, 2] bcast_S8x9x1_S8x9x512_0_1_2 (muli (shapeCast _ (iotaInDim S72 32 0) shapeCasts_S72_S8x9x1) (broadcastInDim S8x9x1 ![] bcast_S_S8x9x1 (constantI S_ 32 512#32)))) a) shapeCasts_S8x9x512_S36864

/-- The sorted ids. -/
def sorted (a : IVec S8x9x512 32) : IVec S8x9x512x1 32 :=
  broadcastInDim S8x9x512x1 ![0, 1, 2] bcast_S8x9x512_S8x9x512x1_0_1_2 (Host.sort S8x9x512 2 comparator_i32_d2 a)

/-- The sorted ids as indices, a negative one counted from the end. -/
def wrapped (s : IVec S8x9x512x1 32) : IVec S8x9x512x1 32 :=
  select (cmpi .slt s (broadcastInDim S8x9x512x1 ![] bcast_S_S8x9x512x1 (constantI S_ 32 0#32))) (addi s (broadcastInDim S8x9x512x1 ![] bcast_S_S8x9x512x1 (constantI S_ 32 512#32))) s

/-- The embeddings once a layer, padding zeroed. -/
def kept (p : IVec S8x9x512 1) (e : FVec Ideal S8x512x256 .f32) : FVec Ideal S8x9x512x256 .f32 :=
  select (broadcastInDim S8x9x512x256 ![0, 1, 2, 3] bcast_S8x9x512x1_S8x9x512x256_0_1_2_3 (broadcastInDim S8x9x512x1 ![0, 1, 2] bcast_S8x9x512_S8x9x512x1_0_1_2 p)) (broadcastInDim S8x9x512x256 ![] bcast_S_S8x9x512x256 (id (constant S_ .f32 0x00000000#32))) (broadcastInDim S8x9x512x256 ![0, 1, 2, 3] bcast_S8x1x512x256_S8x9x512x256_0_1_2_3 (broadcastInDim S8x1x512x256 ![0, 2, 3] bcast_S8x512x256_S8x1x512x256_0_2_3 e))

/-- The sums over the segments. -/
def sums (i : IVec S36864 32) (k : FVec Ideal S36864x256 .f32) : FVec Ideal S36864x256 .f32 :=
  Host.scatterAdd scatter_S36864x256_S36864x1_S36864x256_1_0_0_1 (broadcastInDim S36864x256 ![] bcast_S_S36864x256 (constant S_ .f32 0x00000000#32)) (broadcastInDim S36864x1 ![0] bcast_S36864_S36864x1_0 i) k

/-- The sizes of the segments. -/
def counts (i : IVec S36864 32) : FVec Ideal S36864 .f32 :=
  Host.scatterAdd scatter_S36864_S36864x1_S36864_n_0_0_1 (broadcastInDim S36864 ![] bcast_S_S36864 (constant S_ .f32 0x00000000#32)) (broadcastInDim S36864x1 ![0] bcast_S36864_S36864x1_0 i) (broadcastInDim S36864 ![] bcast_S_S36864 (constant S_ .f32 0x3F800000#32))

/-- The means over the segments. -/
def means (s : FVec Ideal S36864x256 .f32) (n : FVec Ideal S36864 .f32) : FVec Ideal S8x9x512x256 .f32 :=
  shapeCast _ (Host.divf s (broadcastInDim S36864x256 ![0, 1] bcast_S36864x1_S36864x256_0_1 (broadcastInDim S36864x1 ![0] bcast_S36864_S36864x1_0 (maximumf n (broadcastInDim S36864 ![] bcast_S_S36864 (constant S_ .f32 0x3F800000#32)))))) shapeCasts_S36864x256_S8x9x512x256

/-- Which indices lie in the means. -/
def idxOk (w : IVec S8x9x512x1 32) : IVec S8x9x512 1 :=
  Host.reduce IntOp.andi (andi (cmpi .sge w (broadcastInDim S8x9x512x1 ![] bcast_S_S8x9x512x1 (constantI S_ 32 0#32))) (cmpi .sle w (broadcastInDim S8x9x512x1 ![0, 1, 2, 3] bcast_S1x1x1x1_S8x9x512x1_0_1_2_3 (broadcastInDim S1x1x1x1 ![3] bcast_S1_S1x1x1x1_3 (constantI S1 32 511#32))))) (constantI S_ 1 1#1) reducesTo_S8x9x512x1_S8x9x512_d3 h_S_

/-- The nine layers' representations. -/
def layers (w : IVec S8x9x512x1 32) (m : FVec Ideal S8x9x512x256 .f32) : FVec Ideal S8x9x512x256 .f32 :=
  select (broadcastInDim S8x9x512x256 ![0, 1, 2] bcast_S8x9x512_S8x9x512x256_0_1_2 (idxOk w)) (Host.gather gather_S8x9x512x256_S8x9x512x1_S8x9x512x256_3_2_01_01_2_3_111256 m w) (broadcastInDim S8x9x512x256 ![] bcast_S_S8x9x512x256 (constant S_ .f32 0x7FC00000#32))

/-- The ten representations, positions before blocks. -/
def blocks (e : FVec Ideal S8x512x256 .f32) (r : FVec Ideal S8x9x512x256 .f32) : FVec Ideal S8x512x10x256 .f32 :=
  transpose S8x512x10x256 [0, 2, 1, 3] (concatenate S8x10x512x256 1 [⟨S8x1x512x256, (broadcastInDim S8x1x512x256 ![0, 2, 3] bcast_S8x512x256_S8x1x512x256_0_2_3 e)⟩, ⟨S8x9x512x256, r⟩] concatenates_S8x1x512x256_S8x9x512x256_S8x10x512x256_d1) transposes_S8x10x512x256_S8x512x10x256_0_2_1_3

/-- The ten masked scores. -/
def scores (x0 : IVec S8x512 32) (x1 : IVec S8x9x512 32) (p : FVec Ideal S8x512x10x256 .f32) (x7 : FVec Ideal S1x256 .f32) (x8 : FVec Ideal S1 .f32) : FVec Ideal S8x512x10 .f32 :=
  select (cmpi .eq (transpose S8x512x10 [0, 2, 1] (concatenate S8x10x512 1 [⟨S8x1x512, (broadcastInDim S8x1x512 ![0, 2] bcast_S8x512_S8x1x512_0_2 x0)⟩, ⟨S8x9x512, x1⟩] concatenates_S8x1x512_S8x9x512_S8x10x512_d1) transposes_S8x10x512_S8x512x10_0_2_1) (broadcastInDim S8x512x10 ![] bcast_S_S8x512x10 (constantI S_ 32 0#32))) (broadcastInDim S8x512x10 ![] bcast_S_S8x512x10 (constant S_ .f32 0xFF7FFFFF#32)) (addf (Host.dotGeneral dot_S8x512x10x256_S256_S8x512x10_3_0_012_n_n_n none p (shapeCast _ x7 shapeCasts_S1x256_S256)) (broadcastInDim S8x512x10 ![] bcast_S_S8x512x10 (shapeCast _ x8 shapeCasts_S1_S_)))

/-- The exponentials of the scores less the greatest. -/
def exps (s : FVec Ideal S8x512x10 .f32) : FVec Ideal S8x512x10 .f32 :=
  Host.exp (subf s (broadcastInDim S8x512x10 ![0, 1, 2] bcast_S8x512x1_S8x512x10_0_1_2 (broadcastInDim S8x512x1 ![0, 1] bcast_S8x512_S8x512x1_0_1 (maximumf (broadcastInDim S8x512 ![] bcast_S_S8x512 (constant S_ .f32 0xFF800000#32)) (Host.reduce FloatOps.maximumf s (constant S_ .f32 0xFF800000#32) reducesTo_S8x512x10_S8x512_d2 h_S_)))))

/-- The representations weighted by the softmax of their scores and added. -/
def mixed (p : FVec Ideal S8x512x10x256 .f32) (x : FVec Ideal S8x512x10 .f32) : FVec Ideal S8x512x256 .f32 :=
  Host.reduceAdd (mulf p (broadcastInDim S8x512x10x256 ![0, 1, 2, 3] bcast_S8x512x10x1_S8x512x10x256_0_1_2_3 (broadcastInDim S8x512x10x1 ![0, 1, 2] bcast_S8x512x10_S8x512x10x1_0_1_2 (Host.divf x (broadcastInDim S8x512x10 ![0, 1, 2] bcast_S8x512x1_S8x512x10_0_1_2 (broadcastInDim S8x512x1 ![0, 1] bcast_S8x512_S8x512x1_0_1 (Host.reduceAdd x (constant S_ .f32 0x00000000#32) reducesTo_S8x512x10_S8x512_d2 h_S_))))))) (constant S_ .f32 0x00000000#32) reducesTo_S8x512x10x256_S8x512x256_d2 h_S_

/-- The closing dense layer, added to its input after the rectifier. -/
def closed (o : FVec Ideal S8x512x256 .f32) (x9 : FVec Ideal S256x256 .f32) (x10 : FVec Ideal S256 .f32) : FVec Ideal S8x512x256 .f32 :=
  addf o (maximumf (addf (Host.dotGeneral dot_S8x512x256_S256x256_S8x512x256_2_0_01_1_n_n none o (transpose S256x256 [1, 0] x9 transposes_S256x256_S256x256_1_0)) (broadcastInDim S8x512x256 ![0, 1, 2] bcast_S1x1x256_S8x512x256_0_1_2 (broadcastInDim S1x1x256 ![2] bcast_S256_S1x1x256_2 x10))) (broadcastInDim S8x512x256 ![] bcast_S_S8x512x256 (constant S_ .f32 0x00000000#32)))

/-- The embedding as a function of the arguments. -/
def embedOf (x0 : IVec S8x512 32) (x2 : FVec Ideal S384x256 .f32) (x3 : FVec Ideal S256x1x4 .f32) (x4 : FVec Ideal S256 .f32) (x5 : FVec Ideal S256x256 .f32) (x6 : FVec Ideal S256 .f32) : FVec Ideal S8x512x256 .f32 :=
  embed x0 (conv (padded (charRows (charIdx x0) x2)) x3 x4) x5 x6

/-- The ten representations as a function of the embedding and the ids. -/
def blocksOf (x1 : IVec S8x9x512 32) (e : FVec Ideal S8x512x256 .f32) : FVec Ideal S8x512x10x256 .f32 :=
  blocks e (layers (wrapped (sorted (adj x1))) (means (sums (flatIds (adj x1)) (shapeCast _ (kept (isPad x1) e) shapeCasts_S8x9x512x256_S36864x256)) (counts (flatIds (adj x1)))))

/-- The result as a function of the representations. -/
def outOf (x0 : IVec S8x512 32) (x1 : IVec S8x9x512 32) (p : FVec Ideal S8x512x10x256 .f32) (x7 : FVec Ideal S1x256 .f32) (x8 : FVec Ideal S1 .f32) (x9 : FVec Ideal S256x256 .f32) (x10 : FVec Ideal S256 .f32) : FVec Ideal S8x512x256 .f32 :=
  closed (mixed p (exps (scores x0 x1 p x7 x8))) x9 x10

open Cert.ReferenceIdeal.Value in
/-- The run's embedding is that function of the launch contents. -/
theorem v46_eq (V0 : Valuation τ sig (Elt Ideal)) : res_main_v46 V0 = embedOf (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) := rfl

open Cert.ReferenceIdeal.Value in
/-- The run's representations are that function of the ids and the embedding. -/
theorem v85_eq (V0 : Valuation τ sig (Elt Ideal)) : res_main_v85 V0 = blocksOf (V0 (Proc.devRef .tc main_arg1)) (res_main_v46 V0) := rfl

open Cert.ReferenceIdeal.Value in
/-- The run's mixture is that function of the representations. -/
theorem v109_eq (V0 : Valuation τ sig (Elt Ideal)) : res_main_v109 V0 = mixed (res_main_v85 V0) (exps (scores (V0 (Proc.devRef .tc main_arg0)) (V0 (Proc.devRef .tc main_arg1)) (res_main_v85 V0) (V0 (Proc.devRef .tc main_arg7)) (V0 (Proc.devRef .tc main_arg8)))) := rfl

end Cert.ReferenceIdeal.Terms
-- ==== Proof.RefOps.lean ====
module
public import proofs.«01_k».proof.Proof.RefTerms
public import proofs.«01_k».proof.Proof.Spec
public import Idealize.ShloMosaic.Lib.Pointwise
public import Idealize.ShloMosaic.Lib.WordCmp
public import Idealize.ShloMosaic.Lib.SortFacts
public import Idealize.ShloMosaic.Lib.SortNet.Extract
public import Idealize.ShloMosaic.Lib.Routing.OpsPair

/-!
# The reference's gathers, scatters and sort at an index

Each is read at an index whose start words hold small naturals.
-/

@[expose] public section
set_option maxRecDepth 16384
noncomputable section
open Idealize.ShloMosaic Idealize.ShloMosaic.TcCoe Idealize.SL.Sem
namespace Cert.ReferenceIdeal.Terms
open Cert.ReferenceIdeal Cert.ReferenceIdeal.Gen

/-- A small word read signed is the natural it holds. -/
theorem toInt_word (k : ℕ) (hk : k < 2 ^ 31) : (BitVec.ofNat 32 k).toInt = (k : ℤ) := by
  have h1 : (BitVec.ofNat 32 k).toNat = k := by rw [BitVec.toNat_ofNat]; exact Nat.mod_eq_of_lt (by omega)
  rw [WordCmp.toInt_eq_toNat_of_lt_half (by rw [h1]; simpa using hk), h1]

/-- A table's row at an index word. -/
theorem gather_chars (x2 : FVec Ideal S384x256 .f32) (i : IVec S8x512x1 32) (b : Fin 8) (s : Fin 512) (d : Fin 256) (k : Fin 384)
    (hk : i (ix3 b s 0) = BitVec.ofNat 32 k.val) :
    Host.gather gather_S384x256_S8x512x1_S8x512x256_2_0_n_n_0_2_1256 x2 i (ix3 b s d) = x2 (ix2 k d) := by
  unfold Host.gather
  refine congrArg x2 (funext fun a => Fin.ext ?_)
  have hsi : gather_S384x256_S8x512x1_S8x512x256_2_0_n_n_0_2_1256.siIdx (ix3 b s d) ⟨0, by decide⟩ = ix3 b s 0 := by
    funext a; fin_cases a <;> rfl
  fin_cases a
  · show min (i (gather_S384x256_S8x512x1_S8x512x256_2_0_n_n_0_2_1256.siIdx (ix3 b s d) ⟨0, by decide⟩)).toInt.toNat 383 + 0 + 0 = k.val
    rw [hsi, hk, toInt_word _ (by omega)]; simp; omega
  · show 0 + 0 + d.val = d.val
    omega

/-- A layer's mean at an index word. -/
theorem gather_means (m : FVec Ideal S8x9x512x256 .f32) (i : IVec S8x9x512x1 32) (b : Fin 8) (l : Fin 9) (s : Fin 512) (d : Fin 256) (k : Fin 512)
    (hk : i (ix4 b l s 0) = BitVec.ofNat 32 k.val) :
    Host.gather gather_S8x9x512x256_S8x9x512x1_S8x9x512x256_3_2_01_01_2_3_111256 m i (ix4 b l s d) = m (ix4 b l k d) := by
  unfold Host.gather
  refine congrArg m (funext fun a => Fin.ext ?_)
  have hsi : gather_S8x9x512x256_S8x9x512x1_S8x9x512x256_3_2_01_01_2_3_111256.siIdx (ix4 b l s d) ⟨0, by decide⟩ = ix4 b l s 0 := by
    funext a; fin_cases a <;> rfl
  fin_cases a
  · show 0 + b.val + 0 = b.val
    omega
  · show 0 + l.val + 0 = l.val
    omega
  · show min (i (gather_S8x9x512x256_S8x9x512x1_S8x9x512x256_3_2_01_01_2_3_111256.siIdx (ix4 b l s d) ⟨0, by decide⟩)).toInt.toNat 511 + 0 + 0 = k.val
    rw [hsi, hk, toInt_word _ (by omega)]; simp; omega
  · show 0 + 0 + d.val = d.val
    omega

/-- Where an update row of the sums lands. -/
theorem lands_sums (i : IVec S36864x1 32) (j : Fin 36864) (x : Fin 256) (R : Fin 36864) (d : Fin 256) :
    scatter_S36864x256_S36864x1_S36864x256_1_0_0_1.resultIdx? (ix2 j x) i = some (ix2 R d)
      ↔ (i (ix2 j 0)).toInt = (R.val : ℤ) ∧ x = d := by
  have hsi : scatter_S36864x256_S36864x1_S36864x256_1_0_0_1.siIdx (ix2 j x) ⟨0, by decide⟩ = ix2 j 0 := by
    funext a; fin_cases a <;> rfl
  rw [Routing.resultIdx?_eq_some]
  have h0 : scatter_S36864x256_S36864x1_S36864x256_1_0_0_1.start (ix2 j x) i 0 = (i (ix2 j 0)).toInt := by
    rw [← hsi]; rfl
  have h1 : scatter_S36864x256_S36864x1_S36864x256_1_0_0_1.start (ix2 j x) i 1 = 0 := rfl
  have w0 : scatter_S36864x256_S36864x1_S36864x256_1_0_0_1.window (ix2 j x) 0 = 0 := rfl
  have w1 : scatter_S36864x256_S36864x1_S36864x256_1_0_0_1.window (ix2 j x) 1 = x.val := rfl
  constructor
  · intro h
    have a0 := h 0
    have a1 := h 1
    rw [h0, w0] at a0
    rw [h1, w1] at a1
    exact ⟨by simpa using a0, Fin.ext (by simpa using a1)⟩
  · rintro ⟨h, rfl⟩ a
    fin_cases a
    · show scatter_S36864x256_S36864x1_S36864x256_1_0_0_1.start (ix2 j x) i 0 + (scatter_S36864x256_S36864x1_S36864x256_1_0_0_1.window (ix2 j x) 0 : ℤ) = (R.val : ℤ)
      rw [h0, w0, h]; simp
    · show scatter_S36864x256_S36864x1_S36864x256_1_0_0_1.start (ix2 j x) i 1 + (scatter_S36864x256_S36864x1_S36864x256_1_0_0_1.window (ix2 j x) 1 : ℤ) = (x.val : ℤ)
      rw [h1, w1]; simp

/-- Where an update of the counts lands. -/
theorem lands_counts (i : IVec S36864x1 32) (j : Fin 36864) (R : Fin 36864) :
    scatter_S36864_S36864x1_S36864_n_0_0_1.resultIdx? (ix1 j) i = some (ix1 R) ↔ (i (ix2 j 0)).toInt = (R.val : ℤ) := by
  have hsi : scatter_S36864_S36864x1_S36864_n_0_0_1.siIdx (ix1 j) ⟨0, by decide⟩ = ix2 j 0 := by
    funext a; fin_cases a <;> rfl
  rw [Routing.resultIdx?_eq_some]
  have h0 : scatter_S36864_S36864x1_S36864_n_0_0_1.start (ix1 j) i 0 = (i (ix2 j 0)).toInt := by
    rw [← hsi]; rfl
  have w0 : scatter_S36864_S36864x1_S36864_n_0_0_1.window (ix1 j) 0 = 0 := rfl
  constructor
  · intro h
    have a0 := h 0
    rw [h0, w0] at a0
    simpa using a0
  · intro h a
    fin_cases a
    show scatter_S36864_S36864x1_S36864_n_0_0_1.start (ix1 j) i 0 + (scatter_S36864_S36864x1_S36864_n_0_0_1.window (ix1 j) 0 : ℤ) = (R.val : ℤ)
    rw [h0, w0, h]; simp

/-- A position of a batch row and layer in the flat numbering. -/
def flat (b : Fin 8) (l : Fin 9) (s : Fin 512) : Fin 36864 := ⟨b.val * 4608 + l.val * 512 + s.val, by omega⟩

/-- Every flat position is one of a batch row and layer. -/
theorem flat_surj (j : Fin 36864) : ∃ b l s, j = flat b l s :=
  ⟨⟨j.val / 4608, by omega⟩, ⟨j.val / 512 % 9, by omega⟩, ⟨j.val % 512, by omega⟩, Fin.ext (by show j.val = _ * 4608 + _ * 512 + _; simp only; omega)⟩

section Flat
variable (i : IVec S36864 32) (a : Fin 8 → Fin 9 → Fin 512 → ℕ) (ha : ∀ b l s, a b l s < 512)
  (hi : ∀ b l s, i (ix1 (flat b l s)) = BitVec.ofNat 32 (b.val * 4608 + l.val * 512 + a b l s))
include ha hi

/-- A flat id names a segment's row exactly when batch row, layer and id are the segment's. -/
theorem flat_hits (b b' : Fin 8) (l l' : Fin 9) (s g : Fin 512) :
    (i (ix1 (flat b' l' s))).toInt = ((flat b l g).val : ℤ) ↔ b' = b ∧ l' = l ∧ a b' l' s = g.val := by
  have := ha b' l' s
  rw [hi, toInt_word _ (by omega)]
  constructor
  · intro h
    have h' : b'.val * 4608 + l'.val * 512 + a b' l' s = b.val * 4608 + l.val * 512 + g.val := by exact_mod_cast h
    refine ⟨Fin.ext (by omega), Fin.ext (by omega), by omega⟩
  · rintro ⟨rfl, rfl, h⟩
    rw [h]; rfl

/-- The sums: a segment's row is the sum over its batch row and layer's positions with its id. -/
theorem sums_apply (k : FVec Ideal S36864x256 .f32) (b : Fin 8) (l : Fin 9) (g : Fin 512) (d : Fin 256) :
    sums i k (ix2 (flat b l g) d) = ∑ s : Fin 512, if a b l s = g.val then k (ix2 (flat b l s) d) else 0 := by
  have hcol : ∀ j : Fin 36864, broadcastInDim S36864x1 ![0] bcast_S36864_S36864x1_0 i (ix2 j 0) = i (ix1 j) := fun j => by pointwise []
  have hz : (broadcastInDim S36864x256 ![] bcast_S_S36864x256 (constant (F := Ideal) S_ .f32 0x00000000#32)) (ix2 (flat b l g) d) = (0 : EReal) := by
    pointwise []
  show (broadcastInDim S36864x256 ![] bcast_S_S36864x256 (constant (F := Ideal) S_ .f32 0x00000000#32)) (ix2 (flat b l g) d)
    + ∑ j ∈ Finset.univ.filter (fun j => scatter_S36864x256_S36864x1_S36864x256_1_0_0_1.resultIdx? j
        (broadcastInDim S36864x1 ![0] bcast_S36864_S36864x1_0 i) = some (ix2 (flat b l g) d)), k j = _
  rw [hz, zero_add, ← Finset.sum_filter]
  symm
  refine Finset.sum_bij (fun s _ => ix2 (flat b l s) d) ?_ ?_ ?_ ?_
  · intro s hs
    refine Finset.mem_filter.2 ⟨Finset.mem_univ _, (lands_sums _ _ _ _ _).2 ⟨?_, rfl⟩⟩
    rw [hcol, flat_hits i a ha hi]
    exact ⟨rfl, rfl, (Finset.mem_filter.1 hs).2⟩
  · intro s _ s' _ h
    have h0 : flat b l s = flat b l s' := congrFun h 0
    have := congrArg Fin.val h0
    simp only [flat] at this
    exact Fin.ext (by omega)
  · intro j hj
    obtain ⟨j0, j1, rfl⟩ : ∃ (j0 : Fin 36864) (j1 : Fin 256), j = ix2 j0 j1 := ⟨j 0, j 1, by funext x; fin_cases x <;> rfl⟩
    have h := (lands_sums _ _ _ _ _).1 (Finset.mem_filter.1 hj).2
    obtain ⟨b', l', s, rfl⟩ := flat_surj j0
    rw [hcol, flat_hits i a ha hi] at h
    obtain ⟨⟨rfl, rfl, h⟩, rfl⟩ := h
    exact ⟨s, Finset.mem_filter.2 ⟨Finset.mem_univ _, h⟩, rfl⟩
  · intro s _; rfl

/-- The counts: how many of the batch row and layer's positions have the id. -/
theorem counts_apply (b : Fin 8) (l : Fin 9) (g : Fin 512) :
    counts i (ix1 (flat b l g)) = (((Spec.cnt (a b l) g.val : ℕ) : ℝ) : EReal) := by
  have hcol : ∀ j : Fin 36864, broadcastInDim S36864x1 ![0] bcast_S36864_S36864x1_0 i (ix2 j 0) = i (ix1 j) := fun j => by pointwise []
  have hz : (broadcastInDim S36864 ![] bcast_S_S36864 (constant (F := Ideal) S_ .f32 0x00000000#32)) (ix1 (flat b l g)) = (0 : EReal) := by
    pointwise []
  have ho : ∀ j : Fin 36864, (broadcastInDim S36864 ![] bcast_S_S36864 (constant (F := Ideal) S_ .f32 0x3F800000#32)) (ix1 j) = (1 : EReal) := fun j => by
    pointwise []
  show (broadcastInDim S36864 ![] bcast_S_S36864 (constant (F := Ideal) S_ .f32 0x00000000#32)) (ix1 (flat b l g))
    + ∑ j ∈ Finset.univ.filter (fun j => scatter_S36864_S36864x1_S36864_n_0_0_1.resultIdx? j
        (broadcastInDim S36864x1 ![0] bcast_S36864_S36864x1_0 i) = some (ix1 (flat b l g))),
        (broadcastInDim S36864 ![] bcast_S_S36864 (constant (F := Ideal) S_ .f32 0x3F800000#32)) j = _
  rw [hz, zero_add, Spec.cnt, ← Spec.sum_ones, ← Finset.sum_filter]
  symm
  refine Finset.sum_bij (fun s _ => ix1 (flat b l s)) ?_ ?_ ?_ ?_
  · intro s hs
    refine Finset.mem_filter.2 ⟨Finset.mem_univ _, (lands_counts _ _ _).2 ?_⟩
    rw [hcol, flat_hits i a ha hi]
    exact ⟨rfl, rfl, (Finset.mem_filter.1 hs).2⟩
  · intro s _ s' _ h
    have h0 : flat b l s = flat b l s' := congrFun h 0
    have := congrArg Fin.val h0
    simp only [flat] at this
    exact Fin.ext (by omega)
  · intro j hj
    obtain ⟨j0, rfl⟩ : ∃ (j0 : Fin 36864), j = ix1 j0 := ⟨j 0, by funext x; fin_cases x; rfl⟩
    have h := (lands_counts _ _ _).1 (Finset.mem_filter.1 hj).2
    obtain ⟨b', l', s, rfl⟩ := flat_surj j0
    rw [hcol, flat_hits i a ha hi] at h
    obtain ⟨rfl, rfl, h⟩ := h
    exact ⟨s, Finset.mem_filter.2 ⟨Finset.mem_univ _, h⟩, rfl⟩
  · intro s _; exact (ho _).symm

end Flat

/-- The sort puts every batch row and layer's ids in increasing order. -/
theorem sort_apply (x : IVec S8x9x512 32) (a : Fin 512 → ℕ) (b : Fin 8) (l : Fin 9) (ha : ∀ s, a s < 2 ^ 31)
    (hx : ∀ s, x (ix3 b l s) = BitVec.ofNat 32 (a s)) :
    ∃ c : Fin 512 → ℕ, Spec.Sorts a c ∧ ∀ s, Host.sort S8x9x512 2 comparator_i32_d2 x (ix3 b l s) = BitVec.ofNat 32 (c s) := by
  let R : Fin 512 → Fin 512 → Bool := fun k k' => comparator_i32_d2 (x (ix3 b l k)) (x (ix3 b l k')) == 1#1
  have hR : ∀ k k', R k k' = decide (a k < a k') := by
    intro k k'
    show (IntOp.cmpi .slt (x (ix3 b l k)) (x (ix3 b l k')) == 1#1) = _
    rw [hx, hx, WordCmp.cmpi_slt_eq, toInt_word _ (ha _), toInt_word _ (ha _)]
    by_cases h : a k < a k' <;> simp [h]
  obtain ⟨σ, hσ⟩ : ∃ σ : Equiv.Perm (Fin 512), ⇑σ = sortedFrom R :=
    ⟨Equiv.ofBijective _ ⟨sortedFrom_injective R, sortedFrom_surjective R⟩, Equiv.coe_ofBijective _ _⟩
  refine ⟨a ∘ sortedFrom R, ⟨?_, σ, by rw [hσ]⟩, ?_⟩
  · intro s s' h
    rcases eq_or_lt_of_le h with rfl | h
    · exact le_refl _
    · have := sortedFrom_noInversion R R (fun p q h => by rw [hR] at *; simp at *; omega) (fun _ _ h => h)
        (fun p q r h h' => by rw [hR] at *; simp at *; omega) s s' h
      rw [hR] at this
      simpa using this
  · intro s
    have hal : ∀ k : Fin 512, Shape.Idx.along (s := S8x9x512) (ix3 b l s) (2 : Fin 3) k = ix3 b l k := by
      intro k; funext y; fin_cases y <;> rfl
    have hF : (fun k k' : Fin 512 => comparator_i32_d2 (x (Shape.Idx.along (s := S8x9x512) (ix3 b l s) (2 : Fin 3) k))
        (x (Shape.Idx.along (s := S8x9x512) (ix3 b l s) (2 : Fin 3) k')) == 1#1) = R := by
      funext k k'
      rw [hal, hal]
    unfold Host.sort
    rw [dif_pos (show 2 < S8x9x512.rank by decide)]
    refine Eq.trans (congrArg x (hal _)) ((hx _).trans ?_)
    exact congrArg (fun f => BitVec.ofNat 32 (a (sortedFrom f s))) hF

end Cert.ReferenceIdeal.Terms
-- ==== Proof.RefValue.lean ====
module
public import proofs.«01_k».proof.Proof.RefOps

/-!
# The reference read at an index

The characters hold the naturals `q`, below the table's 384 rows; the ids hold the naturals `t`, below 64. The embedding,
the ten representations, the masked scores and the result are read in the terms of `Cert.Spec`.
-/

@[expose] public section
set_option maxRecDepth 16384
noncomputable section
open Idealize.ShloMosaic Idealize.ShloMosaic.TcCoe Idealize.SL.Sem
namespace Cert.ReferenceIdeal.Terms
open Cert.ReferenceIdeal Cert.ReferenceIdeal.Gen

/-- A choice by a truth value. -/
theorem sel_bit {A : Type} (p : Prop) [Decidable p] (x y : A) : Scalar.select (BitVec.ofBool (decide p)) x y = if p then x else y := by
  by_cases h : p <;> simp [h, Scalar.select]

/-- A small word is zero exactly when the natural it holds is. -/
theorem word_zero (k : ℕ) (hk : k < 2 ^ 31) : IntOp.cmpi .eq (BitVec.ofNat 32 k) 0#32 = BitVec.ofBool (decide (k = 0)) := by
  rw [WordCmp.cmpi_eq_eq]
  congr 1
  refine decide_eq_decide.2 ⟨fun h => ?_, fun h => by rw [h]⟩
  have h' := congrArg BitVec.toNat h
  rw [BitVec.toNat_ofNat, Nat.mod_eq_of_lt (by omega)] at h'
  exact h'

/-- A small word counted from the end when negative is itself. -/
theorem word_wrap (k : ℕ) (hk : k < 2 ^ 31) (a : BitVec 32) :
    Scalar.select (IntOp.cmpi .slt (BitVec.ofNat 32 k) 0#32) a (BitVec.ofNat 32 k) = BitVec.ofNat 32 k :=
  Routing.wrap_of_lt _ _ (by rw [BitVec.toNat_ofNat, Nat.mod_eq_of_lt (by omega)]; simpa using hk)

/-- A small word lies between zero and a bound above it. -/
theorem word_ok (k n : ℕ) (hn : n < 2 ^ 31) (hk : k ≤ n) :
    IntOp.andi (IntOp.cmpi .sge (BitVec.ofNat 32 k) 0#32) (IntOp.cmpi .sle (BitVec.ofNat 32 k) (BitVec.ofNat 32 n)) = 1#1 := by
  rw [WordCmp.cmpi_sge_eq, WordCmp.cmpi_sle_eq, toInt_word k (by omega), toInt_word n hn]
  have h0 : (0#32 : BitVec 32).toInt ≤ (k : ℤ) := by simp
  have h1 : (k : ℤ) ≤ (n : ℤ) := by exact_mod_cast hk
  simp [h1, IntOp.andi]

/-- Ones taken together are one. -/
theorem fold_ones {ι : Type} [Fintype ι] (f : ι → BitVec 1) (h : ∀ x, f x = 1#1) : Finset.fold IntOp.andi (1#1) f Finset.univ = 1#1 := by
  classical
  rw [show f = fun _ => 1#1 from funext h]
  induction (Finset.univ : Finset ι) using Finset.induction_on with
  | empty => rfl
  | insert i S hi ih => rw [Finset.fold_insert hi, ih]; rfl

/-- The three parts of a flat position. -/
theorem flat_parts (b : Fin 8) (l : Fin 9) (s : Fin 512) :
    (⟨(flat b l s).val / 4608, by omega⟩ : Fin 8) = b ∧ (⟨(flat b l s).val / 512 % 9, by omega⟩ : Fin 9) = l
      ∧ (⟨(flat b l s).val % 512, by omega⟩ : Fin 512) = s := by
  refine ⟨Fin.ext ?_, Fin.ext ?_, Fin.ext ?_⟩ <;> simp only [flat] <;> omega

section Embedding
variable (x0 : IVec S8x512 32) (q : Fin 8 → Fin 512 → Fin 384) (hq : ∀ b s, x0 (ix2 b s) = BitVec.ofNat 32 (q b s).val)
include hq

/-- The characters' index words. -/
theorem charIdx_apply (b : Fin 8) (s : Fin 512) : charIdx x0 (ix3 b s 0) = BitVec.ofNat 32 (q b s).val := by
  pointwise [charIdx]
  rw [hq]; exact word_wrap _ (by omega) _

/-- The characters' rows of the table. -/
theorem charRows_apply (x2 : FVec Ideal S384x256 .f32) (b : Fin 8) (s : Fin 512) (d : Fin 256) :
    charRows (charIdx x0) x2 (ix3 b s d) = x2 (ix2 (q b s) d) := by
  have hok : charOk (charIdx x0) (ix2 b s) = 1#1 := by
    pointwise [charOk]
    refine fold_ones _ fun x => ?_
    obtain rfl : x = 0 := Subsingleton.elim _ _
    rw [charIdx_apply x0 q hq]; exact word_ok _ 383 (by norm_num) (by omega)
  pointwise [charRows]
  rw [hok, WordCmp.select_of_eq_one rfl, gather_chars x2 _ b s d (q b s) (charIdx_apply x0 q hq b s)]

/-- The rows from row `k` on, with zeros behind them. -/
theorem padded_apply (x2 : FVec Ideal S384x256 .f32) (b : Fin 8) (d : Fin 256) (s : Fin 512) (k : ℕ) (hk : k < 4) :
    padded (charRows (charIdx x0) x2) (ix3 b d (⟨s.val + k, by omega⟩ : Fin 515)) = Spec.tok (fun i x => x2 (ix2 i x)) (q b) k s d := by
  pointwise [padded]
  unfold Spec.tok
  refine dite_congr rfl (fun h => charRows_apply x0 q hq x2 _ _ _) fun _ => ?_
  show Ideal.ofBits .f32 0x00000000#32 = 0
  exact Ideal.ofBits_zero_f32

/-- The convolution. -/
theorem conv_apply (x2 : FVec Ideal S384x256 .f32) (x3 : FVec Ideal S256x1x4 .f32) (x4 : FVec Ideal S256 .f32) (b : Fin 8) (d : Fin 256) (s : Fin 512) :
    conv (padded (charRows (charIdx x0) x2)) x3 x4 (ix3 b d s)
      = Spec.convAt (fun i x => x2 (ix2 i x)) (fun k x => x3 (ix3 x 0 k)) (fun x => x4 (ix1 x)) (q b) s d := by
  have hp := fun k hk => padded_apply x0 q hq x2 b d s k hk
  generalize padded (charRows (charIdx x0) x2) = p at hp
  have h : ∀ (k : ℕ) (hk : k < 4) (i : Fin 515), i.val = k + s.val → p (ix3 b d i) = Spec.tok (fun i x => x2 (ix2 i x)) (q b) k s d := by
    intro k hk i hi
    rw [← hp k hk]
    exact congrArg (fun j => p (ix3 b d j)) (Fin.ext (by simp only [hi]; omega))
  pointwise [conv]
  rw [h 0 (by norm_num) _ (Nat.zero_add _).symm, h 1 (by norm_num) _ rfl, h 2 (by norm_num) _ rfl, h 3 (by norm_num) _ rfl]
  rfl

/-- The embedding. -/
theorem embedOf_apply (x2 : FVec Ideal S384x256 .f32) (x3 : FVec Ideal S256x1x4 .f32) (x4 : FVec Ideal S256 .f32) (x5 : FVec Ideal S256x256 .f32)
    (x6 : FVec Ideal S256 .f32) (b : Fin 8) (s : Fin 512) (d : Fin 256) :
    embedOf x0 x2 x3 x4 x5 x6 (ix3 b s d)
      = Spec.embedAt (fun i x => x2 (ix2 i x)) (fun k x => x3 (ix3 x 0 k)) (fun x => x4 (ix1 x)) (fun i x => x5 (ix2 i x)) (fun x => x6 (ix1 x)) (q b) s d := by
  have hc := fun x => conv_apply x0 q hq x2 x3 x4 b x s
  unfold embedOf
  generalize conv (padded (charRows (charIdx x0) x2)) x3 x4 = v at hc
  have hz : ∀ i : S_.Idx, (id (constant (F := Ideal) S_ .f32 0x00000000#32)) i = (0 : EReal) := fun i => by
    show Ideal.ofBits .f32 0x00000000#32 = 0
    exact Ideal.ofBits_zero_f32
  pointwise [embed]
  rw [hq, word_zero _ (by omega), sel_bit, hz]
  simp only [hc]
  rfl

end Embedding

section Layers
variable (x1 : IVec S8x9x512 32) (t : Fin 8 → Fin 9 → Fin 512 → ℕ) (ht : ∀ b l s, x1 (ix3 b l s) = BitVec.ofNat 32 (t b l s)) (hlt : ∀ b l s, t b l s < 64)
include ht hlt

/-- The mask of padding. -/
theorem isPad_apply (b : Fin 8) (l : Fin 9) (s : Fin 512) : isPad x1 (ix3 b l s) = BitVec.ofBool (decide (t b l s = 0)) := by
  pointwise [isPad]
  rw [ht]; exact word_zero _ (by have := hlt b l s; omega)

/-- The greatest id. -/
theorem topId_apply (b : Fin 8) (l : Fin 9) : topId x1 (ix2 b l) = BitVec.ofNat 32 (Spec.top (t b l)) := by
  pointwise [topId]
  have hw : ∀ s, (x1 (ix3 b l s)).toInt = (t b l s : ℤ) := fun s => by
    rw [ht]; exact toInt_word _ (by have := hlt b l s; omega)
  have htop : Spec.top (t b l) < 64 := (Finset.sup_lt_iff (by simp)).2 fun s _ => hlt b l s
  obtain ⟨_, h2, h3⟩ := SortNet.fold_maxsi_spec (fun x : Fin 512 => x1 (ix3 b l x)) Finset.univ 2147483648#32
  refine BitVec.eq_of_toInt_eq ?_
  rw [toInt_word _ (by omega)]
  generalize Finset.fold IntOp.maxsi 2147483648#32 (fun x : Fin 512 => x1 (ix3 b l x)) Finset.univ = F at *
  obtain ⟨i, _, hi⟩ := Finset.exists_mem_eq_sup (Finset.univ : Finset (Fin 512)) ⟨0, Finset.mem_univ _⟩ (t b l)
  have hge := h2 i (Finset.mem_univ _)
  simp only [hw] at hge
  rw [Spec.top, hi]
  rcases h3 with h3 | ⟨j, _, h3⟩
  · rw [h3] at hge
    have : (2147483648#32 : BitVec 32).toInt < 0 := by decide
    omega
  · have hj : F.toInt = (t b l j : ℤ) := by rw [h3]; exact hw j
    have : t b l j ≤ t b l i := by rw [← hi]; exact Finset.le_sup (f := t b l) (Finset.mem_univ j)
    omega

/-- The adjusted ids. -/
theorem adj_apply (b : Fin 8) (l : Fin 9) (s : Fin 512) : adj x1 (ix3 b l s) = BitVec.ofNat 32 (Spec.adj (t b l) s) := by
  pointwise [adj]
  rw [isPad_apply x1 t ht hlt, topId_apply x1 t ht hlt, ht, sel_bit, Spec.adj]
  have htop : Spec.top (t b l) < 64 := (Finset.sup_lt_iff (by simp)).2 fun s _ => hlt b l s
  have := hlt b l s
  have hsub : ∀ k, k < 100 → IntOp.subi (BitVec.ofNat 32 (k + 1)) 1#32 = BitVec.ofNat 32 k := by decide
  split
  · rw [show IntOp.addi (BitVec.ofNat 32 (Spec.top (t b l))) 1#32 = BitVec.ofNat 32 (Spec.top (t b l) + 1) from WordCmp.addi_ofNat _ 1]
    exact hsub _ (by omega)
  · next h =>
    have := hsub (t b l s - 1) (by omega)
    rwa [Nat.sub_add_cancel (by omega)] at this

/-- The flat ids. -/
theorem flatIds_apply (b : Fin 8) (l : Fin 9) (s : Fin 512) :
    flatIds (adj x1) (ix1 (flat b l s)) = BitVec.ofNat 32 (b.val * 4608 + l.val * 512 + Spec.adj (t b l) s) := by
  have ha := adj_apply x1 t ht hlt b l s
  generalize adj x1 = a at ha
  pointwise [flatIds]
  obtain ⟨h0, h1, h2⟩ := flat_parts b l s
  rw [h0, h1, h2, ha]
  have e' : (flat b l s).val / 4608 * 9 + (flat b l s).val / 512 % 9 = b.val * 9 + l.val := by simp only [flat]; omega
  rw [e', WordCmp.muli_ofNat, WordCmp.addi_ofNat]
  congr 1; omega

/-- The layers' means. -/
theorem means_apply (e : FVec Ideal S8x512x256 .f32) (b : Fin 8) (l : Fin 9) (g : Fin 512) (d : Fin 256) :
    means (sums (flatIds (adj x1)) (shapeCast _ (kept (isPad x1) e) shapeCasts_S8x9x512x256_S36864x256)) (counts (flatIds (adj x1))) (ix4 b l g d)
      = Spec.mean (t b l) (fun s => e (ix3 b s d)) g.val := by
  have hkept : ∀ s, (shapeCast S36864x256 (kept (isPad x1) e) shapeCasts_S8x9x512x256_S36864x256) (ix2 (flat b l s) d)
      = if t b l s = 0 then 0 else e (ix3 b s d) := by
    intro s
    have h : kept (isPad x1) e (ix4 b l s d) = if t b l s = 0 then 0 else e (ix3 b s d) := by
      have hz : ∀ i : S_.Idx, (id (constant (F := Ideal) S_ .f32 0x00000000#32)) i = (0 : EReal) := fun i => by
        show Ideal.ofBits .f32 0x00000000#32 = 0
        exact Ideal.ofBits_zero_f32
      pointwise [kept]
      rw [isPad_apply x1 t ht hlt, sel_bit, hz]
    rw [← h]
    generalize kept (isPad x1) e = k
    pointwise []
    obtain ⟨h0, h1, h2⟩ := flat_parts b l s
    refine congrArg k ?_
    rw [h0, h1, h2]
  have hb : ∀ b l s, Spec.adj (t b l) s < 512 := fun b l s => lt_trans (Spec.adj_lt (hlt b l) s) (by norm_num)
  have hs := sums_apply _ (fun b l s => Spec.adj (t b l) s) hb (flatIds_apply x1 t ht hlt)
    (shapeCast S36864x256 (kept (isPad x1) e) shapeCasts_S8x9x512x256_S36864x256) b l g d
  have hc := counts_apply _ (fun b l s => Spec.adj (t b l) s) hb (flatIds_apply x1 t ht hlt) b l g
  simp only [hkept] at hs
  generalize sums (flatIds (adj x1)) (shapeCast _ (kept (isPad x1) e) shapeCasts_S8x9x512x256_S36864x256) = S at *
  generalize counts (flatIds (adj x1)) = C at *
  pointwise [means]
  exact (congrArg₂ (fun u v => Ideal.div u (max v 1)) hs hc)

/-- The ten representations. -/
theorem blocksOf_apply (b : Fin 8) : ∃ c : Fin 9 → Fin 512 → ℕ, (∀ l, Spec.Sorts (Spec.adj (t b l)) (c l)) ∧
    ∀ (e : FVec Ideal S8x512x256 .f32) (s : Fin 512) (n : Fin 10) (d : Fin 256),
      blocksOf x1 e (ix4 b s n d) = Spec.repAt (fun s d => e (ix3 b s d)) (t b) c s n d := by
  have hsort := fun l => sort_apply (adj x1) (Spec.adj (t b l)) b l
    (fun s => lt_trans (Spec.adj_lt (hlt b l) s) (by norm_num)) (adj_apply x1 t ht hlt b l)
  choose c hc hcs using hsort
  refine ⟨c, hc, fun e s n d => ?_⟩
  have hcl : ∀ l s, c l s < 64 := fun l s => (hc l).lt (Spec.adj_lt (hlt b l)) s
  have hsorted : ∀ l s, sorted (adj x1) (ix4 b l s 0) = BitVec.ofNat 32 (c l s) := fun l s => by
    rw [← hcs]; pointwise [sorted]
  have hw : ∀ l s, wrapped (sorted (adj x1)) (ix4 b l s 0) = BitVec.ofNat 32 (c l s) := fun l s => by
    have h := hsorted l s
    generalize sorted (adj x1) = y at h
    pointwise [wrapped]
    rw [h]; exact word_wrap _ (by have := hcl l s; omega) _
  have hm := fun l g d => means_apply x1 t ht hlt e b l g d
  unfold blocksOf
  generalize means (sums (flatIds (adj x1)) (shapeCast _ (kept (isPad x1) e) shapeCasts_S8x9x512x256_S36864x256)) (counts (flatIds (adj x1))) = M at *
  generalize wrapped (sorted (adj x1)) = W at *
  have hok : ∀ l s, idxOk W (ix3 b l s) = 1#1 := fun l s => by
    pointwise [idxOk]
    refine fold_ones _ fun x => ?_
    obtain rfl : x = 0 := Subsingleton.elim _ _
    rw [hw]; exact word_ok _ 511 (by norm_num) (by have := hcl l s; omega)
  have hl : ∀ l s d, layers W M (ix4 b l s d) = Spec.mean (t b l) (fun s => e (ix3 b s d)) (c l s) := fun l s d => by
    pointwise [layers]
    rw [hok, WordCmp.select_of_eq_one rfl, gather_means M W b l s d ⟨c l s, by have := hcl l s; omega⟩ (hw l s), hm]
  generalize layers W M = L at *
  pointwise [blocks]
  refine Fin.cases ?_ (fun l => ?_) n
  · rfl
  · rw [dif_neg (by simp)]
    exact hl _ _ _

end Layers

/-- The masked scores' exponentials, from the scores of one position. -/
theorem exps_apply (v : FVec Ideal S8x512x10 .f32) (b : Fin 8) (s : Fin 512) (n : Fin 10) :
    exps v (ix3 b s n) = Ideal.exp (v (ix3 b s n) - Finset.univ.sup fun k : Fin 10 => v (ix3 b s k)) := by
  have hi : Ideal.ofBits .f32 0xFF800000#32 = (⊥ : EReal) := by simp [Ideal.ofBits, Ideal.ieee]
  pointwise [exps]
  rw [hi, max_eq_right bot_le]
  rfl

/-- The softmax-weighted sum. -/
theorem mixed_apply (p : FVec Ideal S8x512x10x256 .f32) (v : FVec Ideal S8x512x10 .f32) (b : Fin 8) (s : Fin 512) (d : Fin 256) :
    mixed p (exps v) (ix3 b s d) = Spec.mixAt (fun n d => p (ix4 b s n d)) (fun n => v (ix3 b s n)) d := by
  have he := fun n => exps_apply v b s n
  generalize exps v = x at he
  pointwise [mixed]
  simp only [he]
  rfl

/-- The closing layer. -/
theorem closed_apply (o : FVec Ideal S8x512x256 .f32) (x9 : FVec Ideal S256x256 .f32) (x10 : FVec Ideal S256 .f32) (b : Fin 8) (s : Fin 512) (d : Fin 256) :
    closed o x9 x10 (ix3 b s d) = o (ix3 b s d) + max ((∑ x : Fin 256, o (ix3 b s x) * x9 (ix2 d x)) + x10 (ix1 d)) 0 := by
  pointwise [closed]

/-- The masked scores of one position. -/
theorem scores_apply (x0 : IVec S8x512 32) (x1 : IVec S8x9x512 32) (p : FVec Ideal S8x512x10x256 .f32) (x7 : FVec Ideal S1x256 .f32) (x8 : FVec Ideal S1 .f32)
    (q : Fin 8 → Fin 512 → Fin 384) (hq : ∀ b s, x0 (ix2 b s) = BitVec.ofNat 32 (q b s).val)
    (t : Fin 8 → Fin 9 → Fin 512 → ℕ) (ht : ∀ b l s, x1 (ix3 b l s) = BitVec.ofNat 32 (t b l s)) (hlt : ∀ b l s, t b l s < 64)
    (b : Fin 8) (s : Fin 512) (n : Fin 10) :
    scores x0 x1 p x7 x8 (ix3 b s n) = Spec.masked (Spec.padAt (q b) (t b) s) (Ideal.ofBits .f32 0xFF7FFFFF#32)
      (fun n => ∑ x : Fin 256, p (ix4 b s n x) * x7 (ix2 0 x)) (x8 (ix1 0)) n := by
  have hw : IntOp.cmpi .eq (if h : n.val < 1 then x0 (ix2 b s) else x1 (ix3 b (⟨n.val - 1, by omega⟩ : Fin 9) s)) 0#32
      = BitVec.ofBool (decide (Spec.padAt (q b) (t b) s n)) := by
    refine Fin.cases ?_ (fun l => ?_) n
    · rw [dif_pos (by simp), hq, word_zero _ (by omega)]
      congr 1; exact decide_eq_decide.2 Iff.rfl
    · rw [dif_neg (by simp)]
      have := hlt b l s
      refine Eq.trans (congrArg (fun y => IntOp.cmpi .eq y 0#32) (ht b l s)) ?_
      rw [word_zero _ (by omega)]
      congr 1; exact decide_eq_decide.2 Iff.rfl
  pointwise [scores]
  refine Eq.trans (congrArg (fun y => Scalar.select y _ _) hw) ?_
  rw [sel_bit]; rfl

end Cert.ReferenceIdeal.Terms
-- ==== Proof.RefResult.lean ====
module
public import proofs.«01_k».proof.Proof.RefValue

/-!
# The reference's result at an index

One batch row's result is `Cert.Spec.outAt` of its ten representations and of its masked scores, the score's bias dropped.
-/

@[expose] public section
set_option maxRecDepth 16384
noncomputable section
open Idealize.ShloMosaic Idealize.ShloMosaic.TcCoe Idealize.SL.Sem
namespace Cert.ReferenceIdeal.Terms
open Cert.ReferenceIdeal Cert.ReferenceIdeal.Gen

/-- The score's bias moves no weight: where it is zero, or finite with the position's blocks all padding or none. -/
theorem mixAt_bias {p : Fin 10 → Prop} [DecidablePred p] (r : Fin 10 → Fin 256 → EReal) (M : EReal) (f : Fin 10 → EReal) (b : EReal)
    (h : b = 0 ∨ ((∃ r : ℝ, b = r) ∧ ((∀ i, p i) ∨ ∀ i, ¬ p i))) (d : Fin 256) :
    Spec.mixAt r (Spec.masked p M f b) d = Spec.mixAt r (Spec.masked p M f 0) d := by
  unfold Spec.mixAt
  simp only [Spec.masked_sub p M f b h]

/-- The reference's result, of one batch row. -/
theorem result_apply (x0 : IVec S8x512 32) (x1 : IVec S8x9x512 32) (x2 : FVec Ideal S384x256 .f32) (x3 : FVec Ideal S256x1x4 .f32)
    (x4 : FVec Ideal S256 .f32) (x5 : FVec Ideal S256x256 .f32) (x6 : FVec Ideal S256 .f32) (x7 : FVec Ideal S1x256 .f32) (x8 : FVec Ideal S1 .f32)
    (x9 : FVec Ideal S256x256 .f32) (x10 : FVec Ideal S256 .f32) (q : Fin 8 → Fin 512 → Fin 384)
    (hq : ∀ b s, x0 (ix2 b s) = BitVec.ofNat 32 (q b s).val) (t : Fin 8 → Fin 9 → Fin 512 → ℕ)
    (ht : ∀ b l s, x1 (ix3 b l s) = BitVec.ofNat 32 (t b l s)) (hlt : ∀ b l s, t b l s < 64)
    (h8 : ∀ b s, x8 (ix1 0) = (0 : EReal) ∨ ((∃ r : ℝ, x8 (ix1 0) = (r : EReal))
      ∧ ((∀ n, Spec.padAt (q b) (t b) s n) ∨ ∀ n, ¬ Spec.padAt (q b) (t b) s n))) (b : Fin 8) :
    ∃ c : Fin 9 → Fin 512 → ℕ, (∀ l, Spec.Sorts (Spec.adj (t b l)) (c l)) ∧ ∀ (e : Fin 512 → Fin 256 → EReal),
      e = Spec.embedAt (fun i x => x2 (ix2 i x)) (fun k x => x3 (ix3 x 0 k)) (fun x => x4 (ix1 x)) (fun i x => x5 (ix2 i x)) (fun x => x6 (ix1 x)) (q b) →
      ∀ s d, outOf x0 x1 (blocksOf x1 (embedOf x0 x2 x3 x4 x5 x6)) x7 x8 x9 x10 (ix3 b s d)
        = Spec.outAt (Spec.repAt e (t b) c s) (Spec.masked (Spec.padAt (q b) (t b) s) (Ideal.ofBits .f32 0xFF7FFFFF#32)
            (fun n => ∑ x : Fin 256, Spec.repAt e (t b) c s n x * x7 (ix2 0 x)) 0) (fun i x => x9 (ix2 i x)) (fun x => x10 (ix1 x)) d := by
  obtain ⟨c, hc, hr⟩ := blocksOf_apply x1 t ht hlt b
  refine ⟨c, hc, fun e he s d => ?_⟩
  have hE : (fun s d => embedOf x0 x2 x3 x4 x5 x6 (ix3 b s d)) = e := by
    rw [he]; funext s d; exact embedOf_apply x0 q hq x2 x3 x4 x5 x6 b s d
  have hp : ∀ s n d, blocksOf x1 (embedOf x0 x2 x3 x4 x5 x6) (ix4 b s n d) = Spec.repAt e (t b) c s n d := fun s n d => by
    rw [hr, hE]
  generalize blocksOf x1 (embedOf x0 x2 x3 x4 x5 x6) = p at hp
  have hv : ∀ n, scores x0 x1 p x7 x8 (ix3 b s n) = Spec.masked (Spec.padAt (q b) (t b) s) (Ideal.ofBits .f32 0xFF7FFFFF#32)
      (fun n => ∑ x : Fin 256, Spec.repAt e (t b) c s n x * x7 (ix2 0 x)) (x8 (ix1 0)) n := fun n => by
    rw [scores_apply x0 x1 p x7 x8 q hq t ht hlt b s n]; simp only [hp]
  have hm : ∀ d, mixed p (exps (scores x0 x1 p x7 x8)) (ix3 b s d) = Spec.mixAt (Spec.repAt e (t b) c s)
      (Spec.masked (Spec.padAt (q b) (t b) s) (Ideal.ofBits .f32 0xFF7FFFFF#32)
        (fun n => ∑ x : Fin 256, Spec.repAt e (t b) c s n x * x7 (ix2 0 x)) 0) d := fun d => by
    rw [mixed_apply, ← mixAt_bias _ _ _ _ (h8 b s)]
    refine congrArg₂ (fun u v => Spec.mixAt u v d) (funext fun n => funext fun d => hp s n d) (funext hv)
  unfold outOf
  rw [closed_apply, Spec.outAt]
  simp only [hm]

end Cert.ReferenceIdeal.Terms
-- ==== Proof.PreFacts.lean ====
module
public import proofs.«01_k».proof.Pre_drawn
public import proofs.«01_k».proof.Proof.Gen.Pre_drawn
public import proofs.«01_k».proof.Proof.Spec
public import Idealize.ShloMosaic.Lib.Affine
public import Idealize.ShloMosaic.Lib.ReduceAll
public import Idealize.ShloMosaic.Lib.Pointwise
public import Idealize.ShloMosaic.Lib.Pipeline.ValueKit

/-!
# What the precondition says

The characters are naturals below 384, the ids naturals below 64, and the bias of the score is zero, or else finite with
no position where one block is padding and another is not.
-/

@[expose] public section
set_option maxRecDepth 16384
noncomputable section
open Idealize.ShloMosaic Idealize.ShloMosaic.TcCoe
namespace Cert.Pre_drawn
open Cert.Pre_drawn.Gen

/-- A word between zero and a small bound holds a natural below the bound. -/
theorem word_between (x : BitVec 32) (n : ℕ) (hn : n < 2 ^ 31) (h0 : IntOp.cmpi .sge x 0#32 = 1#1) (h1 : IntOp.cmpi .slt x (BitVec.ofNat 32 n) = 1#1) :
    x.toNat < n := by
  rw [IntOp.cmpi_sge] at h0
  rw [IntOp.cmpi_slt] at h1
  have hx : (0#32 : BitVec 32).toInt = 0 := by decide
  have hn' : (BitVec.ofNat 32 n).toInt = (n : ℤ) := by
    rw [BitVec.toInt_eq_toNat_of_lt (by rw [BitVec.toNat_ofNat, Nat.mod_eq_of_lt (by omega)]; omega), BitVec.toNat_ofNat, Nat.mod_eq_of_lt (by omega)]
  have hlt := x.isLt
  have hc := BitVec.toInt_eq_toNat_cond x
  split at hc <;> omega

/-- An extended real whose greater of itself and its negation is below `⊤` is a real number. -/
theorem real_of_abs (x : EReal) (h : max x (-x) < ⊤) : ∃ r : ℝ, x = r := by
  induction x using EReal.rec with
  | bot => simp at h
  | coe r => exact ⟨r, rfl⟩
  | top => simp at h

section
variable (x0 : IVec S8x512 32) (x1 : IVec S8x9x512 32) (x2 : FVec Ideal S384x256 .f32) (x3 : FVec Ideal S256x1x4 .f32) (x4 : FVec Ideal S256 .f32)
  (x5 : FVec Ideal S256x256 .f32) (x6 : FVec Ideal S256 .f32) (x7 : FVec Ideal S1x256 .f32) (x8 : FVec Ideal S1 .f32) (x9 : FVec Ideal S256x256 .f32)
  (x10 : FVec Ideal S256 .f32)

/-- The precondition at the words. -/
theorem words (h : fn (F := Ideal) x0 x1 x2 x3 x4 x5 x6 x7 x8 x9 x10 = fun _ => 1#1) :
    (∀ b s, (x0 (ix2 b s)).toNat < 384) ∧ (∀ b l s, (x1 (ix3 b l s)).toNat < 64)
      ∧ (x8 (ix1 0) = (0 : EReal) ∨ ((∃ r : ℝ, x8 (ix1 0) = (r : EReal)) ∧ ∀ b l s, x1 (ix3 b l s) = 0#32 ↔ x0 (ix2 b s) = 0#32)) := by
  have h0 := congrFun h ix0
  dsimp only [fn, fn_part1] at h0
  obtain ⟨ha, hb⟩ := IntOp.andi_eq_one.1 h0
  obtain ⟨hc, hd⟩ := IntOp.andi_eq_one.1 ha
  refine ⟨fun b s => ?_, fun b l s => ?_, ?_⟩
  · obtain ⟨e, f⟩ := IntOp.andi_eq_one.1 (Host.reduce_andi_all _ _ _ _ _ hc (ix2 b s))
    exact word_between _ 384 (by norm_num) e f
  · obtain ⟨e, f⟩ := IntOp.andi_eq_one.1 (Host.reduce_andi_all _ _ _ _ _ hd (ix3 b l s))
    exact word_between _ 64 (by norm_num) e f
  · have hs := Host.reduce_andi_all _ _ _ _ _ hb (ix1 (0 : Fin 1))
    clear ha hb hc hd h0 h
    generalize hU : Host.reduce IntOp.andi _ _ _ _ = U at hs
    pointwise [] at hs
    rcases IntOp.ori_eq_one.1 hs with hz | hz
    · refine Or.inl ?_
      by_contra hn
      rw [decide_eq_false hn] at hz
      exact absurd hz (by decide)
    · obtain ⟨hf, hu⟩ := IntOp.andi_eq_one.1 hz
      have htop : Ideal.ofBits .f32 2139095040#32 = (⊤ : EReal) := by simp [Ideal.ofBits, Ideal.ieee]
      rw [htop] at hf
      have hlt : max (x8 (ix1 0)) (-(x8 (ix1 0))) < (⊤ : EReal) := by
        by_contra hn
        rw [show FloatOps.absf (x8 (ix1 0)) = (max (x8 (ix1 0)) (-(x8 (ix1 0))) : EReal) from rfl, decide_eq_false hn] at hf
        exact absurd hf (by decide)
      refine Or.inr ⟨real_of_abs _ hlt, fun b l s => ?_⟩
      have he := Host.reduce_andi_all _ _ _ _ _ ((congrFun hU ix0).trans hu) (ix3 b l s)
      have he' := IntOp.cmpi_eq.1 he
      pointwise [] at he'
      exact ⟨fun e => IntOp.cmpi_eq.1 (he' ▸ IntOp.cmpi_eq.2 e), fun e => IntOp.cmpi_eq.1 (he' ▸ IntOp.cmpi_eq.2 e)⟩

/-- The precondition at the naturals the words hold. -/
theorem naturals (h : fn (F := Ideal) x0 x1 x2 x3 x4 x5 x6 x7 x8 x9 x10 = fun _ => 1#1) :
    ∃ (q : Fin 8 → Fin 512 → Fin 384) (t : Fin 8 → Fin 9 → Fin 512 → ℕ),
      (∀ b s, x0 (ix2 b s) = BitVec.ofNat 32 (q b s).val) ∧ (∀ b l s, x1 (ix3 b l s) = BitVec.ofNat 32 (t b l s)) ∧ (∀ b l s, t b l s < 64)
        ∧ ∀ b s, x8 (ix1 0) = (0 : EReal) ∨ ((∃ r : ℝ, x8 (ix1 0) = (r : EReal))
            ∧ ((∀ n, Spec.padAt (q b) (t b) s n) ∨ ∀ n, ¬ Spec.padAt (q b) (t b) s n)) := by
  obtain ⟨h0, h1, h8⟩ := words x0 x1 x2 x3 x4 x5 x6 x7 x8 x9 x10 h
  refine ⟨fun b s => ⟨(x0 (ix2 b s)).toNat, h0 b s⟩, fun b l s => (x1 (ix3 b l s)).toNat, fun b s => by simp, fun b l s => by simp, h1, fun b s => ?_⟩
  refine h8.imp id fun ⟨hr, hm⟩ => ⟨hr, ?_⟩
  have hz : ∀ x : BitVec 32, x.toNat = 0 ↔ x = 0#32 := fun x => ⟨fun e => BitVec.eq_of_toNat_eq e, fun e => by rw [e]; rfl⟩
  by_cases hx : x0 (ix2 b s) = 0#32
  · exact Or.inl fun n => Fin.cases ((hz _).2 hx) (fun l => (hz _).2 ((hm b l s).2 hx)) n
  · exact Or.inr fun n => Fin.cases (fun e => hx ((hz _).1 e)) (fun l e => hx ((hm b l s).1 ((hz _).1 e))) n
end
end Cert.Pre_drawn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn
public import proofs.«01_k».proof.Proof.Gen.KernelIdeal.Value
public import proofs.«01_k».proof.Proof.Gen.ReferenceIdeal.Run
public import proofs.«01_k».proof.Proof.KernelFinal
public import proofs.«01_k».proof.Proof.RefResult
public import proofs.«01_k».proof.Proof.PreFacts
public import Idealize.ShloMosaic.Adequacy
public import Idealize.ShloMosaic.Init
public import Idealize.ShloMosaic.Lib.Claim

@[expose] public section

noncomputable section

namespace Cert.Proof

open Idealize.ShloMosaic Idealize.SL.Sem

/-- The reference runs, leaves its arguments and every counter at zero: the run of its host operations, and it declares no
    semaphore. -/
theorem reference_frame : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

section
open Cert.ReferenceIdeal Cert.ReferenceIdeal.Terms Cert.ReferenceIdeal.Value

/-- The reference's mixture as a function of its arguments. -/
theorem reference_mixed (m' : (ℓ : Loc nD τ sig) → Buf (Elt Ideal) ℓ) (c : Dev nD) (x0 : IVec S8x512 32) (x1 : IVec S8x9x512 32)
    (x2 : FVec Ideal S384x256 .f32) (x3 : FVec Ideal S256x1x4 .f32) (x4 : FVec Ideal S256 .f32) (x5 : FVec Ideal S256x256 .f32)
    (x6 : FVec Ideal S256 .f32) (x7 : FVec Ideal S1x256 .f32) (x8 : FVec Ideal S1 .f32)
    (e0 : m' (c.tc.loc main_arg0) = x0) (e1 : m' (c.tc.loc main_arg1) = x1) (e2 : m' (c.tc.loc main_arg2) = x2)
    (e3 : m' (c.tc.loc main_arg3) = x3) (e4 : m' (c.tc.loc main_arg4) = x4) (e5 : m' (c.tc.loc main_arg5) = x5)
    (e6 : m' (c.tc.loc main_arg6) = x6) (e7 : m' (c.tc.loc main_arg7) = x7) (e8 : m' (c.tc.loc main_arg8) = x8) :
    res_main_v109 (StableHlo.launchContents m' c)
      = mixed (blocksOf x1 (embedOf x0 x2 x3 x4 x5 x6)) (exps (scores x0 x1 (blocksOf x1 (embedOf x0 x2 x3 x4 x5 x6)) x7 x8)) := by
  subst e0 e1 e2 e3 e4 e5 e6 e7 e8
  rw [v109_eq, v85_eq, v46_eq]
end

/-- The kernel and the reference end with equal results. -/
theorem algebraic : Cert.algebraic_KernelIdeal_ReferenceIdeal_pre_drawn := by
  pair_intro
  · run_from Cert.KernelIdeal.Value.run_blocks m g
  · run_from Cert.ReferenceIdeal.Value.run m' g'
    obtain ⟨q, t, hq, ht, hlt, h8⟩ := Cert.Pre_drawn.naturals _ _ _ _ _ _ _ _ _ _ _ (hpre c)
    obtain ⟨a0, a1, a2, a3, a4, a5, a6, a7, a8, -, -⟩ := hagree c
    rw [reference_mixed m' c _ _ _ _ _ _ _ _ _ a0 a1 a2 a3 a4 a5 a6 a7 a8]
    exact (Cert.KernelIdeal.Block.final m c _ _ _ _ _ _ _ _ _ _ rfl rfl rfl rfl rfl rfl rfl rfl rfl rfl q hq t ht hlt _
      (Cert.ReferenceIdeal.Terms.result_apply _ _ _ _ _ _ _ _ _ _ _ q hq t ht hlt h8)).symm

/-- Every claim of the certificate. -/
theorem claim : Cert.Claim := ⟨Cert.Kernel.Gen.facts, Cert.KernelIdeal.Gen.facts, Cert.ReferenceIdeal.Gen.facts, Cert.Pre_drawn.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, algebraic⟩

end Cert.Proof

end
